-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def preserves_Kernel2_Kernel2Ideal : Prop :=
  True

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v13_0)) (v1 : (c : Dev Cert.Kernel3Ideal.nD) → Buf (Elt Ideal) ((c.tc : Thread Cert.Kernel3Ideal.nD Cert.Kernel3Ideal.τ).loc Cert.Kernel3Ideal.main_v13_1)) (v2 : (c : Dev Cert.Kernel3Ideal.nD) → Buf (Elt Ideal) ((c.tc : Thread Cert.Kernel3Ideal.nD Cert.Kernel3Ideal.τ).loc Cert.Kernel3Ideal.main_v13_2)) (v3 : (c : Dev Cert.Kernel3Ideal.nD) → Buf (Elt Ideal) ((c.tc : Thread Cert.Kernel3Ideal.nD Cert.Kernel3Ideal.τ).loc Cert.Kernel3Ideal.main_v13_3)) (v4 : (c : Dev Cert.Kernel3Ideal.nD) → Buf (Elt Ideal) ((c.tc : Thread Cert.Kernel3Ideal.nD Cert.Kernel3Ideal.τ).loc Cert.Kernel3Ideal.main_v13_4)) (v5 : (c : Dev Cert.Kernel3Ideal.nD) → Buf (Elt Ideal) ((c.tc : Thread Cert.Kernel3Ideal.nD Cert.Kernel3Ideal.τ).loc Cert.Kernel3Ideal.main_v13_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13_0) = v0 c
          ∧ r.2.mem ((c.tc : Thread Cert.Kernel3Ideal.nD Cert.Kernel3Ideal.τ).loc Cert.Kernel3Ideal.main_v13_1) = v1 c
          ∧ r.2.mem ((c.tc : Thread Cert.Kernel3Ideal.nD Cert.Kernel3Ideal.τ).loc Cert.Kernel3Ideal.main_v13_2) = v2 c
          ∧ r.2.mem ((c.tc : Thread Cert.Kernel3Ideal.nD Cert.Kernel3Ideal.τ).loc Cert.Kernel3Ideal.main_v13_3) = v3 c
          ∧ r.2.mem ((c.tc : Thread Cert.Kernel3Ideal.nD Cert.Kernel3Ideal.τ).loc Cert.Kernel3Ideal.main_v13_4) = v4 c
          ∧ r.2.mem ((c.tc : Thread Cert.Kernel3Ideal.nD Cert.Kernel3Ideal.τ).loc Cert.Kernel3Ideal.main_v13_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_v28) = v1 c
          ∧ r.2.mem ((c.tc : Thread Cert.Reference3Ideal.nD Cert.Reference3Ideal.τ).loc Cert.Reference3Ideal.main_v29) = v2 c
          ∧ r.2.mem ((c.tc : Thread Cert.Reference3Ideal.nD Cert.Reference3Ideal.τ).loc Cert.Reference3Ideal.main_v32) = v3 c
          ∧ r.2.mem ((c.tc : Thread Cert.Reference3Ideal.nD Cert.Reference3Ideal.τ).loc Cert.Reference3Ideal.main_v34) = v4 c
          ∧ r.2.mem ((c.tc : Thread Cert.Reference3Ideal.nD Cert.Reference3Ideal.τ).loc Cert.Reference3Ideal.main_v36) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v21) = v0 c
          ∧ r.2.mem ((c.tc : Thread Cert.Reference4Ideal.nD Cert.Reference4Ideal.τ).loc Cert.Reference4Ideal.main_v23) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v36_0)) (v1 : (c : Dev Cert.Kernel5Ideal.nD) → Buf (Elt Ideal) ((c.tc : Thread Cert.Kernel5Ideal.nD Cert.Kernel5Ideal.τ).loc Cert.Kernel5Ideal.main_v36_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v36_0) = v0 c
          ∧ r.2.mem ((c.tc : Thread Cert.Kernel5Ideal.nD Cert.Kernel5Ideal.τ).loc Cert.Kernel5Ideal.main_v36_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v11) = v0 c
          ∧ r.2.mem ((c.tc : Thread Cert.Reference5Ideal.nD Cert.Reference5Ideal.τ).loc Cert.Reference5Ideal.main_v13) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S4x8192x1024 : Shape := ⟨3, ![4, 8192, 1024]⟩
abbrev S4x8192x512 : Shape := ⟨3, ![4, 8192, 512]⟩
abbrev S4x256x1024 : Shape := ⟨3, ![4, 256, 1024]⟩
abbrev S512 : Shape := ⟨1, ![512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S4x1024x256 : Shape := ⟨3, ![4, 1024, 256]⟩
abbrev S1x512 : Shape := ⟨2, ![1, 512]⟩
abbrev S512x1024 : Shape := ⟨2, ![512, 1024]⟩
abbrev S1x1024 : Shape := ⟨2, ![1, 1024]⟩
abbrev S1x512x1024 : Shape := ⟨3, ![1, 512, 1024]⟩
abbrev S1x512x512 : Shape := ⟨3, ![1, 512, 512]⟩
abbrev S1x1024x256 : Shape := ⟨3, ![1, 1024, 256]⟩
abbrev S1x256x1024 : Shape := ⟨3, ![1, 256, 1024]⟩
abbrev S256x1024 : Shape := ⟨2, ![256, 1024]⟩
abbrev S1x256x512 : Shape := ⟨3, ![1, 256, 512]⟩
abbrev S256x512 : Shape := ⟨2, ![256, 512]⟩
abbrev S256 : Shape := ⟨1, ![256]⟩
abbrev S256x1 : Shape := ⟨2, ![256, 1]⟩
abbrev S256x256 : Shape := ⟨2, ![256, 256]⟩
abbrev S1x256x256 : Shape := ⟨3, ![1, 256, 256]⟩

abbrev nBuf : Space → Nat
  | .hbm => 35
  | .vmem => 25
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .f32⟩
  | .hbm, ⟨2, _⟩ => ⟨S4x8192x512, .f32⟩
  | .hbm, ⟨3, _⟩ => ⟨S4x256x1024, .f32⟩
  | .hbm, ⟨4, _⟩ => ⟨S4x256x1024, .f32⟩
  | .hbm, ⟨5, _⟩ => ⟨S512, .f32⟩
  | .hbm, ⟨6, _⟩ => ⟨S512, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024x1024, .f32⟩
  | .hbm, ⟨11, _⟩ => ⟨S1024x1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024x4096, .f32⟩
  | .hbm, ⟨16, _⟩ => ⟨S4096x1024, .f32⟩
  | .hbm, ⟨17, _⟩ => ⟨S1024x1024, .bf16⟩
  | .hbm, ⟨18, _⟩ => ⟨S4x1024x256, .f32⟩
  | .hbm, ⟨19, _⟩ => ⟨S4x1024x256, .bf16⟩
  | .hbm, ⟨20, _⟩ => ⟨S4x256x1024, .bf16⟩
  | .hbm, ⟨21, _⟩ => ⟨S1x512, .f32⟩
  | .hbm, ⟨22, _⟩ => ⟨S1x512, .f32⟩
  | .hbm, ⟨23, _⟩ => ⟨S512x1024, .bf16⟩
  | .hbm, ⟨24, _⟩ => ⟨S512x1024, .bf16⟩
  | .hbm, ⟨25, _⟩ => ⟨S1x1024, .f32⟩
  | .hbm, ⟨26, _⟩ => ⟨S1x1024, .f32⟩
  | .hbm, ⟨27, _⟩ => ⟨S1024x1024, .bf16⟩
  | .hbm, ⟨28, _⟩ => ⟨S1024x1024, .bf16⟩
  | .hbm, ⟨29, _⟩ => ⟨S1x1024, .f32⟩
  | .hbm, ⟨30, _⟩ => ⟨S1x1024, .f32⟩
  | .hbm, ⟨31, _⟩ => ⟨S1024x4096, .bf16⟩
  | .hbm, ⟨32, _⟩ => ⟨S4096x1024, .bf16⟩
  | .hbm, ⟨33, _⟩ => ⟨S1x1024, .f32⟩
  | .hbm, ⟨34, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x1024x256, .bf16⟩
  | .local _ .vmem, ⟨7, _⟩ => ⟨S1x1024x256, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x512, .f32⟩
  | .local _ .vmem, ⟨11, _⟩ => ⟨S1x512, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024, .f32⟩
  | .local _ .vmem, ⟨16, _⟩ => ⟨S1024x1024, .bf16⟩
  | .local _ .vmem, ⟨17, _⟩ => ⟨S1024x1024, .bf16⟩
  | .local _ .vmem, ⟨18, _⟩ => ⟨S1x1024, .f32⟩
  | .local _ .vmem, ⟨19, _⟩ => ⟨S1x1024, .f32⟩
  | .local _ .vmem, ⟨20, _⟩ => ⟨S1024x4096, .bf16⟩
  | .local _ .vmem, ⟨21, _⟩ => ⟨S4096x1024, .bf16⟩
  | .local _ .vmem, ⟨22, _⟩ => ⟨S1x1024, .f32⟩
  | .local _ .vmem, ⟨23, _⟩ => ⟨S1x512x1024, .f32⟩
  | .local _ .vmem, ⟨24, _⟩ => ⟨S1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg18_0 : Ref sig .tc := ⟨.vmem, 23, rfl⟩
abbrev cc0_stg18_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem18_0 : DmaSem sig := 23
abbrev cc0_sem18_1 : DmaSem sig := 24

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024x4096 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S4096x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1x512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== ReferenceIdeal.lean ====
abbrev S4x8192x1024 : Shape := ⟨3, ![4, 8192, 1024]⟩
abbrev S4x8192x512 : Shape := ⟨3, ![4, 8192, 512]⟩
abbrev S4x256x1024 : Shape := ⟨3, ![4, 256, 1024]⟩
abbrev S512 : Shape := ⟨1, ![512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S4x8192 : Shape := ⟨2, ![4, 8192]⟩
abbrev S4x8192x1 : Shape := ⟨3, ![4, 8192, 1]⟩
abbrev S1x1x512 : Shape := ⟨3, ![1, 1, 512]⟩
abbrev S1x1x1024 : Shape := ⟨3, ![1, 1, 1024]⟩
abbrev S4x8192x4x256 : Shape := ⟨4, ![4, 8192, 4, 256]⟩
abbrev S4x256x4x256 : Shape := ⟨4, ![4, 256, 4, 256]⟩
abbrev S4x4x8192x256 : Shape := ⟨4, ![4, 4, 8192, 256]⟩
abbrev S4x4x8192 : Shape := ⟨3, ![4, 4, 8192]⟩
abbrev S4x4x8192x1 : Shape := ⟨4, ![4, 4, 8192, 1]⟩
abbrev S4x4x256x8192 : Shape := ⟨4, ![4, 4, 256, 8192]⟩
abbrev S4x8192x4096 : Shape := ⟨3, ![4, 8192, 4096]⟩

abbrev nBuf : Space → Nat
  | .hbm => 166
  | .vmem => 0
  | .smem => 0
  | _ => 0

abbrev hbmTy0_0 (i : Nat) : BufTy := match i % 128 with
  | 0 => ⟨S4x8192x1024, .f32⟩
  | 1 => ⟨S4x8192x512, .f32⟩
  | 2 => ⟨S4x8192x512, .f32⟩
  | 3 => ⟨S4x256x1024, .f32⟩
  | 4 => ⟨S4x256x1024, .f32⟩
  | 5 => ⟨S512, .f32⟩
  | 6 => ⟨S512, .f32⟩
  | 7 => ⟨S1024x1024, .f32⟩
  | 8 => ⟨S1024, .f32⟩
  | 9 => ⟨S1024, .f32⟩
  | 10 => ⟨S1024x1024, .f32⟩
  | 11 => ⟨S1024x1024, .f32⟩
  | 12 => ⟨S1024, .f32⟩
  | 13 => ⟨S1024, .f32⟩
  | 14 => ⟨S1024, .f32⟩
  | 15 => ⟨S1024x4096, .f32⟩
  | 16 => ⟨S4096x1024, .f32⟩
  | 17 => ⟨S4x8192x512, .f32⟩
  | 18 => ⟨S_, .f32⟩
  | 19 => ⟨S4x8192, .f32⟩
  | 20 => ⟨S4x8192x1, .f32⟩
  | 21 => ⟨S_, .f32⟩
  | 22 => ⟨S4x8192x1, .f32⟩
  | 23 => ⟨S4x8192x1, .f32⟩
  | 24 => ⟨S_, .f32⟩
  | 25 => ⟨S4x8192x1, .f32⟩
  | 26 => ⟨S4x8192x1, .f32⟩
  | 27 => ⟨S4x8192x1, .f32⟩
  | 28 => ⟨S4x8192x512, .f32⟩
  | 29 => ⟨S4x8192x512, .f32⟩
  | 30 => ⟨S1x1x512, .f32⟩
  | 31 => ⟨S4x8192x512, .f32⟩
  | 32 => ⟨S4x8192x512, .f32⟩
  | 33 => ⟨S4x8192x512, .f32⟩
  | 34 => ⟨S_, .f32⟩
  | 35 => ⟨S4x8192, .f32⟩
  | 36 => ⟨S4x8192x1, .f32⟩
  | 37 => ⟨S_, .f32⟩
  | 38 => ⟨S4x8192x1, .f32⟩
  | 39 => ⟨S4x8192x1, .f32⟩
  | 40 => ⟨S_, .f32⟩
  | 41 => ⟨S4x8192x1, .f32⟩
  | 42 => ⟨S4x8192x1, .f32⟩
  | 43 => ⟨S4x8192x1, .f32⟩
  | 44 => ⟨S4x8192x512, .f32⟩
  | 45 => ⟨S4x8192x512, .f32⟩
  | 46 => ⟨S1x1x512, .f32⟩
  | 47 => ⟨S4x8192x512, .f32⟩
  | 48 => ⟨S4x8192x512, .f32⟩
  | 49 => ⟨S4x8192x1024, .f32⟩
  | 50 => ⟨S4x8192x1024, .f32⟩
  | 51 => ⟨S4x8192x1024, .f32⟩
  | 52 => ⟨S_, .f32⟩
  | 53 => ⟨S4x8192, .f32⟩
  | 54 => ⟨S4x8192x1, .f32⟩
  | 55 => ⟨S_, .f32⟩
  | 56 => ⟨S4x8192x1, .f32⟩
  | 57 => ⟨S4x8192x1, .f32⟩
  | 58 => ⟨S_, .f32⟩
  | 59 => ⟨S4x8192x1, .f32⟩
  | 60 => ⟨S4x8192x1, .f32⟩
  | 61 => ⟨S4x8192x1, .f32⟩
  | 62 => ⟨S4x8192x1024, .f32⟩
  | 63 => ⟨S4x8192x1024, .f32⟩
  | 64 => ⟨S1x1x1024, .f32⟩
  | 65 => ⟨S4x8192x1024, .f32⟩
  | 66 => ⟨S4x8192x1024, .f32⟩
  | 67 => ⟨S4x8192x1024, .f32⟩
  | 68 => ⟨S4x8192x1024, .f32⟩
  | 69 => ⟨S_, .f32⟩
  | 70 => ⟨S4x8192, .f32⟩
  | 71 => ⟨S4x8192x1, .f32⟩
  | 72 => ⟨S_, .f32⟩
  | 73 => ⟨S4x8192x1, .f32⟩
  | 74 => ⟨S4x8192x1, .f32⟩
  | 75 => ⟨S_, .f32⟩
  | 76 => ⟨S4x8192x1, .f32⟩
  | 77 => ⟨S4x8192x1, .f32⟩
  | 78 => ⟨S4x8192x1, .f32⟩
  | 79 => ⟨S4x8192x1024, .f32⟩
  | 80 => ⟨S4x8192x1024, .f32⟩
  | 81 => ⟨S1x1x1024, .f32⟩
  | 82 => ⟨S4x8192x1024, .f32⟩
  | 83 => ⟨S4x8192x1024, .f32⟩
  | 84 => ⟨S4x8192x1024, .f32⟩
  | 85 => ⟨S4x8192x4x256, .f32⟩
  | 86 => ⟨S4x256x4x256, .f32⟩
  | 87 => ⟨S4x256x4x256, .f32⟩
  | 88 => ⟨S4x4x8192x256, .f32⟩
  | 89 => ⟨S_, .f32⟩
  | 90 => ⟨S4x4x8192x256, .f32⟩
  | 91 => ⟨S4x4x8192x256, .f32⟩
  | 92 => ⟨S_, .f32⟩
  | 93 => ⟨S4x4x8192, .f32⟩
  | 94 => ⟨S_, .f32⟩
  | 95 => ⟨S4x4x8192, .f32⟩
  | 96 => ⟨S4x4x8192, .f32⟩
  | 97 => ⟨S4x4x8192x1, .f32⟩
  | 98 => ⟨S4x4x8192x256, .f32⟩
  | 99 => ⟨S4x4x8192x256, .f32⟩
  | 100 => ⟨S4x4x8192x256, .f32⟩
  | 101 => ⟨S_, .f32⟩
  | 102 => ⟨S4x4x8192, .f32⟩
  | 103 => ⟨S4x4x8192x1, .f32⟩
  | 104 => ⟨S4x4x8192x256, .f32⟩
  | 105 => ⟨S4x4x8192x256, .f32⟩
  | 106 => ⟨S4x4x256x8192, .f32⟩
  | 107 => ⟨S4x8192x4x256, .f32⟩
  | 108 => ⟨S4x8192x1024, .f32⟩
  | 109 => ⟨S4x8192x1024, .f32⟩
  | 110 => ⟨S4x8192x1024, .f32⟩
  | 111 => ⟨S_, .f32⟩
  | 112 => ⟨S4x8192, .f32⟩
  | 113 => ⟨S4x8192x1, .f32⟩
  | 114 => ⟨S_, .f32⟩
  | 115 => ⟨S4x8192x1, .f32⟩
  | 116 => ⟨S4x8192x1, .f32⟩
  | 117 => ⟨S_, .f32⟩
  | 118 => ⟨S4x8192x1, .f32⟩
  | 119 => ⟨S4x8192x1, .f32⟩
  | 120 => ⟨S4x8192x1, .f32⟩
  | 121 => ⟨S4x8192x1024, .f32⟩
  | 122 => ⟨S4x8192x1024, .f32⟩
  | 123 => ⟨S1x1x1024, .f32⟩
  | 124 => ⟨S4x8192x1024, .f32⟩
  | 125 => ⟨S4x8192x1024, .f32⟩
  | 126 => ⟨S4x8192x1024, .f32⟩
  | 127 => ⟨S4x8192x1024, .f32⟩
  | _ => ⟨S4x8192x1024, .f32⟩

abbrev hbmTy0_1 (i : Nat) : BufTy := match i % 128 with
  | 0 => ⟨S_, .f32⟩
  | 1 => ⟨S4x8192, .f32⟩
  | 2 => ⟨S4x8192x1, .f32⟩
  | 3 => ⟨S_, .f32⟩
  | 4 => ⟨S4x8192x1, .f32⟩
  | 5 => ⟨S4x8192x1, .f32⟩
  | 6 => ⟨S_, .f32⟩
  | 7 => ⟨S4x8192x1, .f32⟩
  | 8 => ⟨S4x8192x1, .f32⟩
  | 9 => ⟨S4x8192x1, .f32⟩
  | 10 => ⟨S4x8192x1024, .f32⟩
  | 11 => ⟨S4x8192x1024, .f32⟩
  | 12 => ⟨S1x1x1024, .f32⟩
  | 13 => ⟨S4x8192x1024, .f32⟩
  | 14 => ⟨S4x8192x1024, .f32⟩
  | 15 => ⟨S4x8192x4096, .f32⟩
  | 16 => ⟨S_, .f32⟩
  | 17 => ⟨S4x8192x4096, .f32⟩
  | 18 => ⟨S4x8192x4096, .f32⟩
  | 19 => ⟨S4x8192x4096, .f32⟩
  | 20 => ⟨S4x8192x1024, .f32⟩
  | 21 => ⟨S4x8192x1024, .f32⟩
  | 22 => ⟨S_, .f32⟩
  | 23 => ⟨S4x8192, .f32⟩
  | 24 => ⟨S4x8192x1, .f32⟩
  | 25 => ⟨S_, .f32⟩
  | 26 => ⟨S4x8192x1, .f32⟩
  | 27 => ⟨S4x8192x1, .f32⟩
  | 28 => ⟨S_, .f32⟩
  | 29 => ⟨S4x8192x1, .f32⟩
  | 30 => ⟨S4x8192x1, .f32⟩
  | 31 => ⟨S4x8192x1, .f32⟩
  | 32 => ⟨S4x8192x1024, .f32⟩
  | 33 => ⟨S4x8192x1024, .f32⟩
  | 34 => ⟨S1x1x1024, .f32⟩
  | 35 => ⟨S4x8192x1024, .f32⟩
  | 36 => ⟨S4x8192x1024, .f32⟩
  | 37 => ⟨S4x8192x1024, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_cst_0 : Ref sig .tc := ⟨.hbm, 21, rfl⟩
abbrev main_v3 : Ref sig .tc := ⟨.hbm, 22, rfl⟩
abbrev main_v4 : Ref sig .tc := ⟨.hbm, 23, rfl⟩
abbrev main_cst_1 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_2 : Ref sig .tc := ⟨.hbm, 34, rfl⟩
abbrev main_v14 : Ref sig .tc := ⟨.hbm, 35, rfl⟩
abbrev main_v15 : Ref sig .tc := ⟨.hbm, 36, rfl⟩
abbrev main_cst_3 : Ref sig .tc := ⟨.hbm, 37, rfl⟩
abbrev main_v16 : Ref sig .tc := ⟨.hbm, 38, rfl⟩
abbrev main_v17 : Ref sig .tc := ⟨.hbm, 39, rfl⟩
abbrev main_cst_4 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_5 : Ref sig .tc := ⟨.hbm, 52, rfl⟩
abbrev main_v29 : Ref sig .tc := ⟨.hbm, 53, rfl⟩
abbrev main_v30 : Ref sig .tc := ⟨.hbm, 54, rfl⟩
abbrev main_cst_6 : Ref sig .tc := ⟨.hbm, 55, rfl⟩
abbrev main_v31 : Ref sig .tc := ⟨.hbm, 56, rfl⟩
abbrev main_v32 : Ref sig .tc := ⟨.hbm, 57, rfl⟩
abbrev main_cst_7 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_8 : Ref sig .tc := ⟨.hbm, 69, rfl⟩
abbrev main_v43 : Ref sig .tc := ⟨.hbm, 70, rfl⟩
abbrev main_v44 : Ref sig .tc := ⟨.hbm, 71, rfl⟩
abbrev main_cst_9 : Ref sig .tc := ⟨.hbm, 72, rfl⟩
abbrev main_v45 : Ref sig .tc := ⟨.hbm, 73, rfl⟩
abbrev main_v46 : Ref sig .tc := ⟨.hbm, 74, rfl⟩
abbrev main_cst_10 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_11 : Ref sig .tc := ⟨.hbm, 89, rfl⟩
abbrev main_v60 : Ref sig .tc := ⟨.hbm, 90, rfl⟩
abbrev main_v61 : Ref sig .tc := ⟨.hbm, 91, rfl⟩
abbrev main_cst_12 : Ref sig .tc := ⟨.hbm, 92, rfl⟩
abbrev main_v62 : Ref sig .tc := ⟨.hbm, 93, rfl⟩
abbrev main_cst_13 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_14 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_15 : Ref sig .tc := ⟨.hbm, 111, rfl⟩
abbrev main_v78 : Ref sig .tc := ⟨.hbm, 112, rfl⟩
abbrev main_v79 : Ref sig .tc := ⟨.hbm, 113, rfl⟩
abbrev main_cst_16 : Ref sig .tc := ⟨.hbm, 114, rfl⟩
abbrev main_v80 : Ref sig .tc := ⟨.hbm, 115, rfl⟩
abbrev main_v81 : Ref sig .tc := ⟨.hbm, 116, rfl⟩
abbrev main_cst_17 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_cst_18 : Ref sig .tc := ⟨.hbm, 128, rfl⟩
abbrev main_v92 : Ref sig .tc := ⟨.hbm, 129, rfl⟩
abbrev main_v93 : Ref sig .tc := ⟨.hbm, 130, rfl⟩
abbrev main_cst_19 : Ref sig .tc := ⟨.hbm, 131, rfl⟩
abbrev main_v94 : Ref sig .tc := ⟨.hbm, 132, rfl⟩
abbrev main_v95 : Ref sig .tc := ⟨.hbm, 133, rfl⟩
abbrev main_cst_20 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_call0_cst : Ref sig .tc := ⟨.hbm, 144, rfl⟩
abbrev main_call0_v0 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_cst_21 : Ref sig .tc := ⟨.hbm, 150, rfl⟩
abbrev main_v109 : Ref sig .tc := ⟨.hbm, 151, rfl⟩
abbrev main_v110 : Ref sig .tc := ⟨.hbm, 152, rfl⟩
abbrev main_cst_22 : Ref sig .tc := ⟨.hbm, 153, rfl⟩
abbrev main_v111 : Ref sig .tc := ⟨.hbm, 154, rfl⟩
abbrev main_v112 : Ref sig .tc := ⟨.hbm, 155, rfl⟩
abbrev main_cst_23 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩

abbrev nD : Nat := 1
abbrev τ : Topo := Topo.v7x

variable {F : FTy → Type} [FloatOps F]
-- ==== Kernel2.lean ====
abbrev S4x8192x1024 : Shape := ⟨3, ![4, 8192, 1024]⟩
abbrev S4x512 : Shape := ⟨2, ![4, 512]⟩
abbrev S512 : Shape := ⟨1, ![512]⟩
abbrev S8x64x64 : Shape := ⟨3, ![8, 64, 64]⟩
abbrev S1x512 : Shape := ⟨2, ![1, 512]⟩
abbrev S8x8 : Shape := ⟨2, ![8, 8]⟩
abbrev S_ : Shape := ⟨0, ![]⟩
abbrev S8x64x1x64 : Shape := ⟨4, ![8, 64, 1, 64]⟩
abbrev S8x1x8x1 : Shape := ⟨4, ![8, 1, 8, 1]⟩
abbrev S8x64x8x64 : Shape := ⟨4, ![8, 64, 8, 64]⟩
abbrev S512x512 : Shape := ⟨2, ![512, 512]⟩
abbrev S4x8192x512 : Shape := ⟨3, ![4, 8192, 512]⟩
abbrev S1x1024x1024 : Shape := ⟨3, ![1, 1024, 1024]⟩
abbrev S1x1024x512 : Shape := ⟨3, ![1, 1024, 512]⟩
abbrev S1032x512 : Shape := ⟨2, ![1032, 512]⟩
abbrev S8x512 : Shape := ⟨2, ![8, 512]⟩
abbrev S1024x512 : Shape := ⟨2, ![1024, 512]⟩
abbrev S1x8x512 : Shape := ⟨3, ![1, 8, 512]⟩

abbrev nBuf : Space → Nat
  | .hbm => 41
  | .vmem => 13
  | .smem => 0
  | _ => 0

abbrev bufTy : (tb : Table) → Fin (tcTables nBuf tb) → BufTy
  | .hbm, ⟨0, _⟩ => ⟨S4x8192x1024, .f32⟩
  | .hbm, ⟨1, _⟩ => ⟨S4x512, .f32⟩
  | .hbm, ⟨2, _⟩ => ⟨S512, .f32⟩
  | .hbm, ⟨3, _⟩ => ⟨S8x64x64, .f32⟩
  | .hbm, ⟨4, _⟩ => ⟨S512, .f32⟩
  | .hbm, ⟨5, _⟩ => ⟨S8x64x64, .f32⟩
  | .hbm, ⟨6, _⟩ => ⟨S512, .f32⟩
  | .hbm, ⟨7, _⟩ => ⟨S512, .f32⟩
  | .hbm, ⟨8, _⟩ => ⟨S1x512, .f32⟩
  | .hbm, ⟨9, _⟩ => ⟨S8x8, .i32⟩
  | .hbm, ⟨10, _⟩ => ⟨S8x8, .i32⟩
  | .hbm, ⟨11, _⟩ => ⟨S_, .i32⟩
  | .hbm, ⟨12, _⟩ => ⟨S8x8, .i32⟩
  | .hbm, ⟨13, _⟩ => ⟨S8x8, .i32⟩
  | .hbm, ⟨14, _⟩ => ⟨S8x8, .i1⟩
  | .hbm, ⟨15, _⟩ => ⟨S8x8, .f32⟩
  | .hbm, ⟨16, _⟩ => ⟨S8x64x1x64, .f32⟩
  | .hbm, ⟨17, _⟩ => ⟨S8x1x8x1, .f32⟩
  | .hbm, ⟨18, _⟩ => ⟨S8x64x8x64, .f32⟩
  | .hbm, ⟨19, _⟩ => ⟨S8x64x8x64, .f32⟩
  | .hbm, ⟨20, _⟩ => ⟨S8x64x8x64, .f32⟩
  | .hbm, ⟨21, _⟩ => ⟨S512x512, .f32⟩
  | .hbm, ⟨22, _⟩ => ⟨S512x512, .bf16⟩
  | .hbm, ⟨23, _⟩ => ⟨S1x512, .f32⟩
  | .hbm, ⟨24, _⟩ => ⟨S8x8, .i32⟩
  | .hbm, ⟨25, _⟩ => ⟨S8x8, .i32⟩
  | .hbm, ⟨26, _⟩ => ⟨S_, .i32⟩
  | .hbm, ⟨27, _⟩ => ⟨S8x8, .i32⟩
  | .hbm, ⟨28, _⟩ => ⟨S8x8, .i32⟩
  | .hbm, ⟨29, _⟩ => ⟨S8x8, .i1⟩
  | .hbm, ⟨30, _⟩ => ⟨S8x8, .f32⟩
  | .hbm, ⟨31, _⟩ => ⟨S8x64x1x64, .f32⟩
  | .hbm, ⟨32, _⟩ => ⟨S8x1x8x1, .f32⟩
  | .hbm, ⟨33, _⟩ => ⟨S8x64x8x64, .f32⟩
  | .hbm, ⟨34, _⟩ => ⟨S8x64x8x64, .f32⟩
  | .hbm, ⟨35, _⟩ => ⟨S8x64x8x64, .f32⟩
  | .hbm, ⟨36, _⟩ => ⟨S512x512, .f32⟩
  | .hbm, ⟨37, _⟩ => ⟨S512x512, .bf16⟩
  | .hbm, ⟨38, _⟩ => ⟨S1x512, .f32⟩
  | .hbm, ⟨39, _⟩ => ⟨S1x512, .f32⟩
  | .hbm, ⟨40, _⟩ => ⟨S4x8192x512, .f32⟩
  | .local _ .vmem, ⟨0, _⟩ => ⟨S1x1024x1024, .f32⟩
  | .local _ .vmem, ⟨1, _⟩ => ⟨S1x1024x1024, .f32⟩
  | .local _ .vmem, ⟨2, _⟩ => ⟨S4x512, .f32⟩
  | .local _ .vmem, ⟨3, _⟩ => ⟨S1x512, .f32⟩
  | .local _ .vmem, ⟨4, _⟩ => ⟨S512x512, .bf16⟩
  | .local _ .vmem, ⟨5, _⟩ => ⟨S1x512, .f32⟩
  | .local _ .vmem, ⟨6, _⟩ => ⟨S512x512, .bf16⟩
  | .local _ .vmem, ⟨7, _⟩ => ⟨S1x512, .f32⟩
  | .local _ .vmem, ⟨8, _⟩ => ⟨S1x512, .f32⟩
  | .local _ .vmem, ⟨9, _⟩ => ⟨S1x1024x512, .f32⟩
  | .local _ .vmem, ⟨10, _⟩ => ⟨S1x1024x512, .f32⟩
  | .local _ .vmem, ⟨11, _⟩ => ⟨S1032x512, .f32⟩
  | .local _ .vmem, ⟨12, _⟩ => ⟨S8x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel3.lean ====
abbrev S4x8192x1024 : Shape := ⟨3, ![4, 8192, 1024]⟩
abbrev S1024 : Shape := ⟨1, ![1024]⟩
abbrev S1024x2328 : Shape := ⟨2, ![1024, 2328]⟩
abbrev S32768x1024 : Shape := ⟨2, ![32768, 1024]⟩
abbrev S1024x512 : Shape := ⟨2, ![1024, 512]⟩
abbrev S1024x256 : Shape := ⟨2, ![1024, 256]⟩
abbrev S1024x24 : Shape := ⟨2, ![1024, 24]⟩
abbrev S_ : Shape := ⟨0, ![]⟩
abbrev S1024x128 : Shape := ⟨2, ![1024, 128]⟩
abbrev S1024x1024 : Shape := ⟨2, ![1024, 1024]⟩
abbrev S1x1024 : Shape := ⟨2, ![1, 1024]⟩
abbrev S32768x512 : Shape := ⟨2, ![32768, 512]⟩
abbrev S32768x128 : Shape := ⟨2, ![32768, 128]⟩
abbrev S1024x1 : Shape := ⟨2, ![1024, 1]⟩

abbrev nBuf : Space → Nat
  | .hbm => 24
  | .vmem => 20
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x2328, .f32⟩
  | .hbm, ⟨3, _⟩ => ⟨S32768x1024, .f32⟩
  | .hbm, ⟨4, _⟩ => ⟨S1024x512, .f32⟩
  | .hbm, ⟨5, _⟩ => ⟨S1024x512, .bf16⟩
  | .hbm, ⟨6, _⟩ => ⟨S1024x256, .f32⟩
  | .hbm, ⟨7, _⟩ => ⟨S1024x256, .bf16⟩
  | .hbm, ⟨8, _⟩ => ⟨S1024x512, .f32⟩
  | .hbm, ⟨9, _⟩ => ⟨S1024x512, .bf16⟩
  | .hbm, ⟨10, _⟩ => ⟨S1024x24, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S1024x128, .bf16⟩
  | .hbm, ⟨15, _⟩ => ⟨S1024x1024, .f32⟩
  | .hbm, ⟨16, _⟩ => ⟨S1024x1024, .bf16⟩
  | .hbm, ⟨17, _⟩ => ⟨S1x1024, .f32⟩
  | .hbm, ⟨18, _⟩ => ⟨S32768x512, .bf16⟩
  | .hbm, ⟨19, _⟩ => ⟨S32768x128, .f32⟩
  | .hbm, ⟨20, _⟩ => ⟨S32768x128, .f32⟩
  | .hbm, ⟨21, _⟩ => ⟨S32768x512, .bf16⟩
  | .hbm, ⟨22, _⟩ => ⟨S32768x128, .f32⟩
  | .hbm, ⟨23, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .bf16⟩
  | .local _ .vmem, ⟨4, _⟩ => ⟨S1024x256, .bf16⟩
  | .local _ .vmem, ⟨5, _⟩ => ⟨S1024x512, .bf16⟩
  | .local _ .vmem, ⟨6, _⟩ => ⟨S1024x128, .bf16⟩
  | .local _ .vmem, ⟨7, _⟩ => ⟨S1024x1024, .bf16⟩
  | .local _ .vmem, ⟨8, _⟩ => ⟨S1024x512, .bf16⟩
  | .local _ .vmem, ⟨9, _⟩ => ⟨S1024x512, .bf16⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x512, .bf16⟩
  | .local _ .vmem, ⟨15, _⟩ => ⟨S1024x512, .bf16⟩
  | .local _ .vmem, ⟨16, _⟩ => ⟨S1024x128, .f32⟩
  | .local _ .vmem, ⟨17, _⟩ => ⟨S1024x128, .f32⟩
  | .local _ .vmem, ⟨18, _⟩ => ⟨S1024x1024, .f32⟩
  | .local _ .vmem, ⟨19, _⟩ => ⟨S1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev main_v13_2 : Ref sig .tc := ⟨.hbm, 20, rfl⟩
abbrev main_v13_3 : Ref sig .tc := ⟨.hbm, 21, rfl⟩
abbrev main_v13_4 : Ref sig .tc := ⟨.hbm, 22, rfl⟩
abbrev main_v13_5 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference3Ideal.lean ====
abbrev S4x8192x1024 : Shape := ⟨3, ![4, 8192, 1024]⟩
abbrev S1024 : Shape := ⟨1, ![1024]⟩
abbrev S1024x2328 : Shape := ⟨2, ![1024, 2328]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x2328 : Shape := ⟨3, ![4, 8192, 2328]⟩
abbrev S4x8192x512 : Shape := ⟨3, ![4, 8192, 512]⟩
abbrev S4x8192x128 : Shape := ⟨3, ![4, 8192, 128]⟩
abbrev S4x8192x24 : Shape := ⟨3, ![4, 8192, 24]⟩
abbrev S32768x512 : Shape := ⟨2, ![32768, 512]⟩
abbrev S32768x128 : Shape := ⟨2, ![32768, 128]⟩
abbrev S32768x1024 : Shape := ⟨2, ![32768, 1024]⟩

abbrev nBuf : Space → Nat
  | .hbm => 46
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x2328, .f32⟩
  | .hbm, ⟨3, _⟩ => ⟨S4x8192x1024, .f32⟩
  | .hbm, ⟨4, _⟩ => ⟨S_, .f32⟩
  | .hbm, ⟨5, _⟩ => ⟨S4x8192, .f32⟩
  | .hbm, ⟨6, _⟩ => ⟨S4x8192x1, .f32⟩
  | .hbm, ⟨7, _⟩ => ⟨S_, .f32⟩
  | .hbm, ⟨8, _⟩ => ⟨S4x8192x1, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S4x8192x1, .f32⟩
  | .hbm, ⟨14, _⟩ => ⟨S4x8192x1024, .f32⟩
  | .hbm, ⟨15, _⟩ => ⟨S4x8192x1024, .f32⟩
  | .hbm, ⟨16, _⟩ => ⟨S1x1x1024, .f32⟩
  | .hbm, ⟨17, _⟩ => ⟨S4x8192x1024, .f32⟩
  | .hbm, ⟨18, _⟩ => ⟨S4x8192x1024, .f32⟩
  | .hbm, ⟨19, _⟩ => ⟨S4x8192x2328, .f32⟩
  | .hbm, ⟨20, _⟩ => ⟨S4x8192x512, .f32⟩
  | .hbm, ⟨21, _⟩ => ⟨S4x8192x128, .f32⟩
  | .hbm, ⟨22, _⟩ => ⟨S4x8192x128, .f32⟩
  | .hbm, ⟨23, _⟩ => ⟨S4x8192x128, .f32⟩
  | .hbm, ⟨24, _⟩ => ⟨S4x8192x128, .f32⟩
  | .hbm, ⟨25, _⟩ => ⟨S4x8192x128, .f32⟩
  | .hbm, ⟨26, _⟩ => ⟨S4x8192x128, .f32⟩
  | .hbm, ⟨27, _⟩ => ⟨S4x8192x24, .f32⟩
  | .hbm, ⟨28, _⟩ => ⟨S4x8192x512, .f32⟩
  | .hbm, ⟨29, _⟩ => ⟨S4x8192x512, .f32⟩
  | .hbm, ⟨30, _⟩ => ⟨S_, .f32⟩
  | .hbm, ⟨31, _⟩ => ⟨S4x8192x512, .f32⟩
  | .hbm, ⟨32, _⟩ => ⟨S4x8192x512, .f32⟩
  | .hbm, ⟨33, _⟩ => ⟨S32768x512, .f32⟩
  | .hbm, ⟨34, _⟩ => ⟨S32768x512, .bf16⟩
  | .hbm, ⟨35, _⟩ => ⟨S32768x128, .f32⟩
  | .hbm, ⟨36, _⟩ => ⟨S32768x128, .f32⟩
  | .hbm, ⟨37, _⟩ => ⟨S4x8192x512, .f32⟩
  | .hbm, ⟨38, _⟩ => ⟨S32768x512, .f32⟩
  | .hbm, ⟨39, _⟩ => ⟨S32768x512, .bf16⟩
  | .hbm, ⟨40, _⟩ => ⟨S_, .i32⟩
  | .hbm, ⟨41, _⟩ => ⟨S_, .f32⟩
  | .hbm, ⟨42, _⟩ => ⟨S4x8192x128, .f32⟩
  | .hbm, ⟨43, _⟩ => ⟨S32768x128, .f32⟩
  | .hbm, ⟨44, _⟩ => ⟨S4x8192x1024, .f32⟩
  | .hbm, ⟨45, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_c : Ref sig .tc := ⟨.hbm, 40, rfl⟩
abbrev main_call0_v0 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩

abbrev nD : Nat := 1
abbrev τ : Topo := Topo.v7x

variable {F : FTy → Type} [FloatOps F]
-- ==== Kernel4.lean ====
abbrev S4x256x1024 : Shape := ⟨3, ![4, 256, 1024]⟩
abbrev S1024 : Shape := ⟨1, ![1024]⟩
abbrev S1024x2048 : Shape := ⟨2, ![1024, 2048]⟩
abbrev S1x1024 : Shape := ⟨2, ![1, 1024]⟩
abbrev S1024x1024 : Shape := ⟨2, ![1024, 1024]⟩
abbrev S4x1024x256 : Shape := ⟨3, ![4, 1024, 256]⟩
abbrev S1x256x1024 : Shape := ⟨3, ![1, 256, 1024]⟩
abbrev S1x1024x256 : Shape := ⟨3, ![1, 1024, 256]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩

abbrev nBuf : Space → Nat
  | .hbm => 9
  | .vmem => 9
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S1024x2048, .f32⟩
  | .hbm, ⟨3, _⟩ => ⟨S1024x2048, .bf16⟩
  | .hbm, ⟨4, _⟩ => ⟨S1x1024, .f32⟩
  | .hbm, ⟨5, _⟩ => ⟨S1024x1024, .bf16⟩
  | .hbm, ⟨6, _⟩ => ⟨S1024x1024, .bf16⟩
  | .hbm, ⟨7, _⟩ => ⟨S4x1024x256, .bf16⟩
  | .hbm, ⟨8, _⟩ => ⟨S4x256x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x256x1024, .bf16⟩
  | .local _ .vmem, ⟨8, _⟩ => ⟨S1x256x1024, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S4x256x1024 : Shape := ⟨3, ![4, 256, 1024]⟩
abbrev S1024 : Shape := ⟨1, ![1024]⟩
abbrev S1024x2048 : Shape := ⟨2, ![1024, 2048]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S4x256x2048 : Shape := ⟨3, ![4, 256, 2048]⟩
abbrev S4x256x2x4x256 : Shape := ⟨5, ![4, 256, 2, 4, 256]⟩
abbrev S4x256x1x4x256 : Shape := ⟨5, ![4, 256, 1, 4, 256]⟩
abbrev S4x256x4x256 : Shape := ⟨4, ![4, 256, 4, 256]⟩
abbrev S4x1024x256 : Shape := ⟨3, ![4, 1024, 256]⟩

abbrev nBuf : Space → Nat
  | .hbm => 30
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S1024x2048, .f32⟩
  | .hbm, ⟨3, _⟩ => ⟨S4x256x1024, .f32⟩
  | .hbm, ⟨4, _⟩ => ⟨S_, .f32⟩
  | .hbm, ⟨5, _⟩ => ⟨S4x256, .f32⟩
  | .hbm, ⟨6, _⟩ => ⟨S4x256x1, .f32⟩
  | .hbm, ⟨7, _⟩ => ⟨S_, .f32⟩
  | .hbm, ⟨8, _⟩ => ⟨S4x256x1, .f32⟩
  | .hbm, ⟨9, _⟩ => ⟨S4x256x1, .f32⟩
  | .hbm, ⟨10, _⟩ => ⟨S_, .f32⟩
  | .hbm, ⟨11, _⟩ => ⟨S4x256x1, .f32⟩
  | .hbm, ⟨12, _⟩ => ⟨S4x256x1, .f32⟩
  | .hbm, ⟨13, _⟩ => ⟨S4x256x1, .f32⟩
  | .hbm, ⟨14, _⟩ => ⟨S4x256x1024, .f32⟩
  | .hbm, ⟨15, _⟩ => ⟨S4x256x1024, .f32⟩
  | .hbm, ⟨16, _⟩ => ⟨S1x1x1024, .f32⟩
  | .hbm, ⟨17, _⟩ => ⟨S4x256x1024, .f32⟩
  | .hbm, ⟨18, _⟩ => ⟨S4x256x1024, .f32⟩
  | .hbm, ⟨19, _⟩ => ⟨S4x256x2048, .f32⟩
  | .hbm, ⟨20, _⟩ => ⟨S4x256x2x4x256, .f32⟩
  | .hbm, ⟨21, _⟩ => ⟨S4x256x1x4x256, .f32⟩
  | .hbm, ⟨22, _⟩ => ⟨S4x256x1x4x256, .f32⟩
  | .hbm, ⟨23, _⟩ => ⟨S4x256x4x256, .f32⟩
  | .hbm, ⟨24, _⟩ => ⟨S4x256x4x256, .f32⟩
  | .hbm, ⟨25, _⟩ => ⟨S4x256x1024, .f32⟩
  | .hbm, ⟨26, _⟩ => ⟨S4x1024x256, .f32⟩
  | .hbm, ⟨27, _⟩ => ⟨S4x1024x256, .bf16⟩
  | .hbm, ⟨28, _⟩ => ⟨S4x256x1024, .f32⟩
  | .hbm, ⟨29, _⟩ => ⟨S4x256x1024, .bf16⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== Kernel5.lean ====
abbrev S32768x128 : Shape := ⟨2, ![32768, 128]⟩
abbrev S64x64 : Shape := ⟨2, ![64, 64]⟩
abbrev S64x64x64 : Shape := ⟨3, ![64, 64, 64]⟩
abbrev S1x64x1x64 : Shape := ⟨4, ![1, 64, 1, 64]⟩
abbrev S1x64x2x64 : Shape := ⟨4, ![1, 64, 2, 64]⟩
abbrev S64x128 : Shape := ⟨2, ![64, 128]⟩
abbrev S1x8192 : Shape := ⟨2, ![1, 8192]⟩
abbrev S512x8192 : Shape := ⟨2, ![512, 8192]⟩
abbrev S2x2 : Shape := ⟨2, ![2, 2]⟩
abbrev S_ : Shape := ⟨0, ![]⟩
abbrev S64x1x64x1x64 : Shape := ⟨5, ![64, 1, 64, 1, 64]⟩
abbrev S1x2x1x2x1 : Shape := ⟨5, ![1, 2, 1, 2, 1]⟩
abbrev S64x2x64x2x64 : Shape := ⟨5, ![64, 2, 64, 2, 64]⟩
abbrev S8192x128 : Shape := ⟨2, ![8192, 128]⟩
abbrev S512x128 : Shape := ⟨2, ![512, 128]⟩
abbrev S128x8192 : Shape := ⟨2, ![128, 8192]⟩
abbrev S128x128 : Shape := ⟨2, ![128, 128]⟩

abbrev nBuf : Space → Nat
  | .hbm => 46
  | .vmem => 12
  | .smem => 0
  | _ => 0

abbrev bufTy : (tb : Table) → Fin (tcTables nBuf tb) → BufTy
  | .hbm, ⟨0, _⟩ => ⟨S32768x128, .f32⟩
  | .hbm, ⟨1, _⟩ => ⟨S32768x128, .f32⟩
  | .hbm, ⟨2, _⟩ => ⟨S64x64, .f32⟩
  | .hbm, ⟨3, _⟩ => ⟨S64x64, .f32⟩
  | .hbm, ⟨4, _⟩ => ⟨S64x64x64, .f32⟩
  | .hbm, ⟨5, _⟩ => ⟨S64x64x64, .f32⟩
  | .hbm, ⟨6, _⟩ => ⟨S1x64x1x64, .f32⟩
  | .hbm, ⟨7, _⟩ => ⟨S1x64x2x64, .f32⟩
  | .hbm, ⟨8, _⟩ => ⟨S64x128, .f32⟩
  | .hbm, ⟨9, _⟩ => ⟨S1x8192, .f32⟩
  | .hbm, ⟨10, _⟩ => ⟨S1x64x1x64, .f32⟩
  | .hbm, ⟨11, _⟩ => ⟨S1x64x2x64, .f32⟩
  | .hbm, ⟨12, _⟩ => ⟨S64x128, .f32⟩
  | .hbm, ⟨13, _⟩ => ⟨S1x8192, .f32⟩
  | .hbm, ⟨14, _⟩ => ⟨S512x8192, .f32⟩
  | .hbm, ⟨15, _⟩ => ⟨S512x8192, .f32⟩
  | .hbm, ⟨16, _⟩ => ⟨S2x2, .i32⟩
  | .hbm, ⟨17, _⟩ => ⟨S2x2, .i32⟩
  | .hbm, ⟨18, _⟩ => ⟨S_, .i32⟩
  | .hbm, ⟨19, _⟩ => ⟨S2x2, .i32⟩
  | .hbm, ⟨20, _⟩ => ⟨S2x2, .i32⟩
  | .hbm, ⟨21, _⟩ => ⟨S2x2, .i1⟩
  | .hbm, ⟨22, _⟩ => ⟨S2x2, .f32⟩
  | .hbm, ⟨23, _⟩ => ⟨S64x1x64x1x64, .f32⟩
  | .hbm, ⟨24, _⟩ => ⟨S1x2x1x2x1, .f32⟩
  | .hbm, ⟨25, _⟩ => ⟨S64x2x64x2x64, .f32⟩
  | .hbm, ⟨26, _⟩ => ⟨S64x2x64x2x64, .f32⟩
  | .hbm, ⟨27, _⟩ => ⟨S64x2x64x2x64, .f32⟩
  | .hbm, ⟨28, _⟩ => ⟨S8192x128, .f32⟩
  | .hbm, ⟨29, _⟩ => ⟨S8192x128, .bf16⟩
  | .hbm, ⟨30, _⟩ => ⟨S2x2, .i32⟩
  | .hbm, ⟨31, _⟩ => ⟨S2x2, .i32⟩
  | .hbm, ⟨32, _⟩ => ⟨S_, .i32⟩
  | .hbm, ⟨33, _⟩ => ⟨S2x2, .i32⟩
  | .hbm, ⟨34, _⟩ => ⟨S2x2, .i32⟩
  | .hbm, ⟨35, _⟩ => ⟨S2x2, .i1⟩
  | .hbm, ⟨36, _⟩ => ⟨S2x2, .f32⟩
  | .hbm, ⟨37, _⟩ => ⟨S64x1x64x1x64, .f32⟩
  | .hbm, ⟨38, _⟩ => ⟨S1x2x1x2x1, .f32⟩
  | .hbm, ⟨39, _⟩ => ⟨S64x2x64x2x64, .f32⟩
  | .hbm, ⟨40, _⟩ => ⟨S64x2x64x2x64, .f32⟩
  | .hbm, ⟨41, _⟩ => ⟨S64x2x64x2x64, .f32⟩
  | .hbm, ⟨42, _⟩ => ⟨S8192x128, .f32⟩
  | .hbm, ⟨43, _⟩ => ⟨S8192x128, .bf16⟩
  | .hbm, ⟨44, _⟩ => ⟨S512x128, .bf16⟩
  | .hbm, ⟨45, _⟩ => ⟨S512x128, .bf16⟩
  | .local _ .vmem, ⟨0, _⟩ => ⟨S128x8192, .f32⟩
  | .local _ .vmem, ⟨1, _⟩ => ⟨S128x8192, .f32⟩
  | .local _ .vmem, ⟨2, _⟩ => ⟨S128x8192, .f32⟩
  | .local _ .vmem, ⟨3, _⟩ => ⟨S128x8192, .f32⟩
  | .local _ .vmem, ⟨4, _⟩ => ⟨S1x8192, .f32⟩
  | .local _ .vmem, ⟨5, _⟩ => ⟨S1x8192, .f32⟩
  | .local _ .vmem, ⟨6, _⟩ => ⟨S8192x128, .bf16⟩
  | .local _ .vmem, ⟨7, _⟩ => ⟨S8192x128, .bf16⟩
  | .local _ .vmem, ⟨8, _⟩ => ⟨S128x128, .bf16⟩
  | .local _ .vmem, ⟨9, _⟩ => ⟨S128x128, .bf16⟩
  | .local _ .vmem, ⟨10, _⟩ => ⟨S128x128, .bf16⟩
  | .local _ .vmem, ⟨11, _⟩ => ⟨S128x128, .bf16⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c_0 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36_0 : Ref sig .tc := ⟨.hbm, 44, rfl⟩
abbrev main_v36_1 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8192x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8192x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S32768x128 : Shape := ⟨2, ![32768, 128]⟩
abbrev S64x64 : Shape := ⟨2, ![64, 64]⟩
abbrev S64x64x64 : Shape := ⟨3, ![64, 64, 64]⟩
abbrev S4x128x64x2x64 : Shape := ⟨5, ![4, 128, 64, 2, 64]⟩
abbrev S1x1x64x1x64 : Shape := ⟨5, ![1, 1, 64, 1, 64]⟩
abbrev S4x128x2x64 : Shape := ⟨4, ![4, 128, 2, 64]⟩
abbrev S512x128 : Shape := ⟨2, ![512, 128]⟩

abbrev nBuf : Space → Nat
  | .hbm => 20
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S32768x128, .f32⟩
  | .hbm, ⟨2, _⟩ => ⟨S64x64, .f32⟩
  | .hbm, ⟨3, _⟩ => ⟨S64x64, .f32⟩
  | .hbm, ⟨4, _⟩ => ⟨S64x64x64, .f32⟩
  | .hbm, ⟨5, _⟩ => ⟨S64x64x64, .f32⟩
  | .hbm, ⟨6, _⟩ => ⟨S4x128x64x2x64, .f32⟩
  | .hbm, ⟨7, _⟩ => ⟨S1x1x64x1x64, .f32⟩
  | .hbm, ⟨8, _⟩ => ⟨S4x128x64x2x64, .f32⟩
  | .hbm, ⟨9, _⟩ => ⟨S4x128x64x2x64, .f32⟩
  | .hbm, ⟨10, _⟩ => ⟨S4x128x2x64, .f32⟩
  | .hbm, ⟨11, _⟩ => ⟨S4x128x64x2x64, .f32⟩
  | .hbm, ⟨12, _⟩ => ⟨S1x1x64x1x64, .f32⟩
  | .hbm, ⟨13, _⟩ => ⟨S4x128x64x2x64, .f32⟩
  | .hbm, ⟨14, _⟩ => ⟨S4x128x64x2x64, .f32⟩
  | .hbm, ⟨15, _⟩ => ⟨S4x128x2x64, .f32⟩
  | .hbm, ⟨16, _⟩ => ⟨S512x128, .f32⟩
  | .hbm, ⟨17, _⟩ => ⟨S512x128, .bf16⟩
  | .hbm, ⟨18, _⟩ => ⟨S512x128, .f32⟩
  | .hbm, ⟨19, _⟩ => ⟨S512x128, .bf16⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Rows.lean ====
/-
  The layer's mathematics on one token: functions of rows (a token's 512 or 1024 numbers) and of matrices, over the
  extended reals. Both programs are read as these functions.
-/
module

public import Idealize.ShloMosaic.Lib.Pointwise

@[expose] public section

set_option maxRecDepth 16384

noncomputable section

namespace Cert.Post

open Idealize.ShloMosaic

/-- The constant the normalisations add to a mean of squares. -/
def eps : EReal := Ideal.ofBits .f32 0x358637BD#32
/-- The length 1024, as the programs write it. -/
def n1024 : EReal := Ideal.ofBits .f32 0x44800000#32
/-- The length 512, as the programs write it. -/
def n512 : EReal := Ideal.ofBits .f32 0x44000000#32
/-- The scale of the scores, one sixteenth. -/
def sixteenth : EReal := Ideal.ofBits .f32 0x3D800000#32

/-- A row divided by the root of its mean square, times a gain. -/
def rms (n : EReal) {d : ℕ} (x g : Fin d → EReal) (j : Fin d) : EReal :=
  x j * Ideal.rsqrt (Ideal.div (∑ k, x k * x k) n + eps) * g j

/-- A row plus the normalisation of another. -/
def addRms (n : EReal) {d : ℕ} (x y g : Fin d → EReal) (j : Fin d) : EReal := x j + rms n y g j

/-- A row times a matrix. -/
def mm {K N : ℕ} (x : Fin K → EReal) (w : Fin K → Fin N → EReal) (j : Fin N) : EReal := ∑ k, x k * w k j

/-- The largest entry of a row, no smaller than minus infinity's pattern. -/
def rowMax {M : ℕ} (s : Fin M → EReal) : EReal := Finset.univ.fold max (Ideal.ofBits .f32 0xFF800000#32) s

/-- The softmax of a row. -/
def softmax {M : ℕ} (s : Fin M → EReal) (m : Fin M) : EReal :=
  Ideal.div (Ideal.exp (s m - rowMax s)) (∑ m', Ideal.exp (s m' - rowMax s))

/-- One head's output: the softmax of the scores against the keys, times the values. -/
def attend {D M : ℕ} (q : Fin D → EReal) (kt : Fin D → Fin M → EReal) (v : Fin M → Fin D → EReal) : Fin D → EReal :=
  mm (softmax (mm q kt)) v

/-- The square of the positive part. -/
def relu2 (u : EReal) : EReal := max u 0 * max u 0

/-- Two matrices with the squared positive part between them. -/
def ffn {K U N : ℕ} (h : Fin K → EReal) (w1 : Fin K → Fin U → EReal) (w2 : Fin U → Fin N → EReal) : Fin N → EReal :=
  mm (fun k => relu2 (mm h w1 k)) w2

/-- The position of the `k`-th member of chunk `c` among four chunks of 1024. -/
def chunk4 (c : ℕ) (hc : c < 4) (k : Fin 1024) : Fin 4096 := ⟨c * 1024 + k.val, by omega⟩
/-- Head `h`'s coordinate `d` among the 1024. -/
def head4 (h : ℕ) (hh : h < 4) (d : Fin 256) : Fin 1024 := ⟨h * 256 + d.val, by omega⟩

/-- Four rows of 256 side by side. -/
def cat4 (a b c d : Fin 256 → EReal) (x : Fin 1024) : EReal :=
  if h : x.val < 256 then a ⟨x.val, h⟩
  else if h : x.val - 256 < 256 then b ⟨x.val - 256, h⟩
  else if h : x.val - 256 - 256 < 256 then c ⟨x.val - 256 - 256, h⟩
  else d ⟨x.val - 256 - 256 - 256, by omega⟩

/-- The operands that every token of a batch element shares: gains, matrices, keys (transposed) and values. -/
structure Weights where
  gA : Fin 512 → EReal
  gL : Fin 512 → EReal
  wA : Fin 512 → Fin 1024 → EReal
  wL : Fin 512 → Fin 1024 → EReal
  gMix : Fin 1024 → EReal
  gX : Fin 1024 → EReal
  wq : Fin 1024 → Fin 1024 → EReal
  kt : Fin 1024 → Fin 256 → EReal
  v : Fin 256 → Fin 1024 → EReal
  wo : Fin 1024 → Fin 1024 → EReal
  gXo : Fin 1024 → EReal
  gH : Fin 1024 → EReal
  w1 : Fin 1024 → Fin 4096 → EReal
  w2 : Fin 4096 → Fin 1024 → EReal
  gHo : Fin 1024 → EReal

namespace Weights
variable (W : Weights)

/-- The token after the mixer's projection. -/
def x1 (x : Fin 1024 → EReal) (a l : Fin 512 → EReal) : Fin 1024 → EReal :=
  addRms n1024 x (fun k => mm (rms n512 a W.gA) W.wA k + mm (rms n512 l W.gL) W.wL k) W.gMix

/-- The scaled query. -/
def q (y : Fin 1024 → EReal) (j : Fin 1024) : EReal := mm (rms n1024 y W.gX) W.wq j * sixteenth

/-- Head `h` of the cross attention of a scaled query. -/
def head (q : Fin 1024 → EReal) (h : ℕ) (hh : h < 4) : Fin 256 → EReal :=
  attend (fun d => q (head4 h hh d)) (fun d m => W.kt (head4 h hh d) m) (fun m d => W.v m (head4 h hh d))

/-- The four heads side by side. -/
def heads (q : Fin 1024 → EReal) : Fin 1024 → EReal :=
  cat4 (W.head q 0 (by omega)) (W.head q 1 (by omega)) (W.head q 2 (by omega)) (W.head q 3 (by omega))

/-- The token after the cross attention. -/
def x2 (y : Fin 1024 → EReal) : Fin 1024 → EReal :=
  addRms n1024 y (mm (W.heads (W.q y)) W.wo) W.gXo

/-- The normalised row the feed-forward part reads. -/
def hm (z : Fin 1024 → EReal) : Fin 1024 → EReal := rms n1024 z W.gH

/-- The feed-forward part through chunk `c` of its 4096 inner positions. -/
def part (h : Fin 1024 → EReal) (c : ℕ) (hc : c < 4) : Fin 1024 → EReal :=
  ffn h (fun i k => W.w1 i (chunk4 c hc k)) (fun k j => W.w2 (chunk4 c hc k) j)

/-- The feed-forward part, chunk after chunk. -/
def acc (h : Fin 1024 → EReal) (j : Fin 1024) : EReal :=
  W.part h 0 (by omega) j + W.part h 1 (by omega) j + W.part h 2 (by omega) j + W.part h 3 (by omega) j

/-- The token after the feed-forward part. -/
def x3 (z : Fin 1024 → EReal) : Fin 1024 → EReal := addRms n1024 z (W.acc (W.hm z)) W.gHo

/-- The whole call on one token. -/
def out (x : Fin 1024 → EReal) (a l : Fin 512 → EReal) : Fin 1024 → EReal := W.x3 (W.x2 (W.x1 x a l))

end Weights

end Cert.Post
-- ==== Proof.PostPay.lean ====
/-
  The kernel body's named values read at an index: each is a row function of the rows of its operands.
-/
module

public import proofs.«01_k».proof.Proof.Rows
public import proofs.«01_k».proof.Proof.Gen.KernelIdeal.Skeleton

@[expose] public section

set_option maxRecDepth 16384

noncomputable section

namespace Cert.Post

open Idealize.ShloMosaic Cert.KernelIdeal Cert.KernelIdeal.Gen

/-! ## The mixer -/

/-- The first half's normalised attention row. -/
theorem pay5_apply (v4 : Vec Ideal S1x256x512 .f32) (v6 : Vec Ideal S1x512 .f32) (r : Fin 256) (j : Fin 512) :
    k0_pay5 v4 v6 (ix2 r j) = rms n512 (fun k => v4 (ix3 0 r k)) (fun k => v6 (ix2 0 k)) j := by
  pointwise [k0_pay5]; rfl

/-- The second half's normalised attention row. -/
theorem pay8_apply (v4 : Vec Ideal S1x256x512 .f32) (v6 : Vec Ideal S1x512 .f32) (r : Fin 256) (j : Fin 512) :
    k0_pay8 (k0_pay6 v4) (k0_pay7 v6) (ix2 r j) = rms n512 (fun k => v4 (ix3 0 r k)) (fun k => v6 (ix2 0 k)) j := by
  pointwise [k0_pay8, k0_pay6, k0_pay7]; rfl

/-- The first half's normalised recurrence row. -/
theorem pay9_apply (v4 : Vec Ideal S1x256x512 .f32) (v6 : Vec Ideal S1x512 .f32) (r : Fin 256) (j : Fin 512) :
    k0_pay9 v4 v6 (ix2 r j) = rms n512 (fun k => v4 (ix3 0 r k)) (fun k => v6 (ix2 0 k)) j := by
  pointwise [k0_pay9]; rfl

/-- The second half's normalised recurrence row. -/
theorem pay10_apply (v4 : Vec Ideal S1x256x512 .f32) (v6 : Vec Ideal S1x512 .f32) (r : Fin 256) (j : Fin 512) :
    k0_pay10 v4 v6 (ix2 r j) = rms n512 (fun k => v4 (ix3 0 r k)) (fun k => v6 (ix2 0 k)) j := by
  pointwise [k0_pay10]; rfl

/-- The first half's tokens after the mixer. -/
theorem pay12_apply (x : Vec Ideal S1x256x1024 .f32) (a l : FVec Ideal S256x512 .bf16)
    (wa wl : Vec Ideal S512x1024 .bf16) (g : Vec Ideal S1x1024 .f32) (r : Fin 256) (j : Fin 1024) :
    k0_pay12 (k0_pay3 x) l (k0_pay11 a wa) wl g (ix2 r j)
      = addRms n1024 (fun k => x (ix3 0 r k))
          (fun k => mm (fun i => a (ix2 r i)) (fun i k => wa (ix2 i k)) k
            + mm (fun i => l (ix2 r i)) (fun i k => wl (ix2 i k)) k) (fun k => g (ix2 0 k)) j := by
  pointwise [k0_pay12, k0_pay3, k0_pay11]; rfl

/-- The second half's tokens after the mixer. -/
theorem pay13_apply (x : Vec Ideal S1x256x1024 .f32) (a l : FVec Ideal S256x512 .bf16)
    (wa wl : Vec Ideal S512x1024 .bf16) (g : Vec Ideal S1x1024 .f32) (r : Fin 256) (j : Fin 1024) :
    k0_pay13 (k0_pay4 x) a l wa wl g (ix2 r j)
      = addRms n1024 (fun k => x (ix3 0 r k))
          (fun k => mm (fun i => a (ix2 r i)) (fun i k => wa (ix2 i k)) k
            + mm (fun i => l (ix2 r i)) (fun i k => wl (ix2 i k)) k) (fun k => g (ix2 0 k)) j := by
  pointwise [k0_pay13, k0_pay4]; rfl

/-! ## The cross attention -/

/-- The first half's scaled queries. -/
theorem pay14_apply (y : FVec Ideal S256x1024 .f32) (g : Vec Ideal S1x1024 .f32) (w : Vec Ideal S1024x1024 .bf16)
    (r : Fin 256) (j : Fin 1024) :
    k0_pay14 y g w (ix2 r j)
      = mm (rms n1024 (fun k => y (ix2 r k)) (fun k => g (ix2 0 k))) (fun i k => w (ix2 i k)) j * sixteenth := by
  pointwise [k0_pay14]; rfl

/-- The second half's scaled queries. -/
theorem pay15_apply (y : FVec Ideal S256x1024 .f32) (g : Vec Ideal S1x1024 .f32) (w : Vec Ideal S1024x1024 .bf16)
    (r : Fin 256) (j : Fin 1024) :
    k0_pay15 y g w (ix2 r j)
      = mm (rms n1024 (fun k => y (ix2 r k)) (fun k => g (ix2 0 k))) (fun i k => w (ix2 i k)) j * sixteenth := by
  pointwise [k0_pay15]; rfl

/-- The first half's head 0. -/
theorem pay17_apply (y : FVec Ideal S256x1024 .f32) (g : Vec Ideal S1x1024 .f32) (w : Vec Ideal S1024x1024 .bf16)
    (kt v : Vec Ideal S1x256x256 .bf16) (r j : Fin 256) :
    k0_pay17 (k0_pay16 y g w) kt v (ix2 r j)
      = attend (fun d => k0_pay14 y g w (ix2 r (head4 0 (by omega) d))) (fun d m => kt (ix3 0 d m))
          (fun m d => v (ix3 0 m d)) j := by
  pointwise [k0_pay17, k0_pay16, attend, mm, softmax, rowMax, head4]

/-- The first half's head 1. -/
theorem pay21_apply (q : FVec Ideal S256x1024 .bf16) (kt v : Vec Ideal S1x256x256 .bf16) (r j : Fin 256) :
    k0_pay21 (k0_pay19 q) (k0_pay20 kt) v (ix2 r j)
      = attend (fun d => q (ix2 r (head4 1 (by omega) d))) (fun d m => kt (ix3 0 d m)) (fun m d => v (ix3 0 m d)) j := by
  pointwise [k0_pay21, k0_pay19, k0_pay20, attend, mm, softmax, rowMax, head4]

/-- The first half's head 2. -/
theorem pay25_apply (q : FVec Ideal S256x1024 .bf16) (kt v : Vec Ideal S1x256x256 .bf16) (r j : Fin 256) :
    k0_pay25 (k0_pay23 q kt) v (ix2 r j)
      = attend (fun d => q (ix2 r (head4 2 (by omega) d))) (fun d m => kt (ix3 0 d m)) (fun m d => v (ix3 0 m d)) j := by
  pointwise [k0_pay25, k0_pay23, attend, mm, softmax, rowMax, head4]

/-- The second half's head 0. -/
theorem pay18_apply (q : FVec Ideal S256x1024 .bf16) (kt v : Vec Ideal S1x256x256 .bf16) (r j : Fin 256) :
    k0_pay18 q kt v (ix2 r j)
      = attend (fun d => q (ix2 r (head4 0 (by omega) d))) (fun d m => kt (ix3 0 d m)) (fun m d => v (ix3 0 m d)) j := by
  pointwise [k0_pay18, attend, mm, softmax, rowMax, head4]

/-- The second half's head 1. -/
theorem pay22_apply (q : FVec Ideal S256x1024 .bf16) (kt v : Vec Ideal S1x256x256 .bf16) (r j : Fin 256) :
    k0_pay22 q kt v (ix2 r j)
      = attend (fun d => q (ix2 r (head4 1 (by omega) d))) (fun d m => kt (ix3 0 d m)) (fun m d => v (ix3 0 m d)) j := by
  pointwise [k0_pay22, attend, mm, softmax, rowMax, head4]

/-- The second half's head 2. -/
theorem pay26_apply (q : FVec Ideal S256x1024 .bf16) (kt v : Vec Ideal S1x256x256 .bf16) (r j : Fin 256) :
    k0_pay26 (k0_pay24 q) kt v (ix2 r j)
      = attend (fun d => q (ix2 r (head4 2 (by omega) d))) (fun d m => kt (ix3 0 d m)) (fun m d => v (ix3 0 m d)) j := by
  pointwise [k0_pay26, k0_pay24, attend, mm, softmax, rowMax, head4]

/-- The first half's head 3 and the output projection of the four. -/
theorem pay30_apply (a b c : FVec Ideal S256x256 .bf16) (q : FVec Ideal S256x1024 .bf16) (kt v : Vec Ideal S1x256x256 .bf16)
    (w : Vec Ideal S1024x1024 .bf16) (r : Fin 256) (j : Fin 1024) :
    k0_pay30 a b c (k0_pay27 q kt) v w (ix2 r j)
      = mm (cat4 (fun d => a (ix2 r d)) (fun d => b (ix2 r d)) (fun d => c (ix2 r d))
          (attend (fun d => q (ix2 r (head4 3 (by omega) d))) (fun d m => kt (ix3 0 d m)) (fun m d => v (ix3 0 m d))))
          (fun i k => w (ix2 i k)) j := by
  pointwise [k0_pay30, k0_pay27, attend, mm, softmax, rowMax, head4, cat4]

/-- The second half's head 3 and the output projection of the four. -/
theorem pay31_apply (a b c : FVec Ideal S256x256 .bf16) (q : FVec Ideal S256x1024 .bf16) (kt v : Vec Ideal S1x256x256 .bf16)
    (w : Vec Ideal S1024x1024 .bf16) (r : Fin 256) (j : Fin 1024) :
    k0_pay31 a b c (k0_pay28 q) (k0_pay29 kt) v w (ix2 r j)
      = mm (cat4 (fun d => a (ix2 r d)) (fun d => b (ix2 r d)) (fun d => c (ix2 r d))
          (attend (fun d => q (ix2 r (head4 3 (by omega) d))) (fun d m => kt (ix3 0 d m)) (fun m d => v (ix3 0 m d))))
          (fun i k => w (ix2 i k)) j := by
  pointwise [k0_pay31, k0_pay28, k0_pay29, attend, mm, softmax, rowMax, head4, cat4]

/-- The first half's tokens after the cross attention. -/
theorem pay33_apply (y z : FVec Ideal S256x1024 .f32) (g : Vec Ideal S1x1024 .f32) (r : Fin 256) (j : Fin 1024) :
    k0_pay33 y z (k0_pay32 g) (ix2 r j)
      = addRms n1024 (fun k => y (ix2 r k)) (fun k => z (ix2 r k)) (fun k => g (ix2 0 k)) j := by
  pointwise [k0_pay33, k0_pay32]; rfl

/-- The second half's tokens after the cross attention. -/
theorem pay34_apply (y z : FVec Ideal S256x1024 .f32) (g : Vec Ideal S1x1024 .f32) (r : Fin 256) (j : Fin 1024) :
    k0_pay34 y z g (ix2 r j)
      = addRms n1024 (fun k => y (ix2 r k)) (fun k => z (ix2 r k)) (fun k => g (ix2 0 k)) j := by
  pointwise [k0_pay34]; rfl

/-! ## The feed-forward part -/

/-- The first half's normalised rows. -/
theorem pay35_apply (y z : FVec Ideal S256x1024 .f32) (g h : Vec Ideal S1x1024 .f32) (r : Fin 256) (j : Fin 1024) :
    k0_pay35 y z (k0_pay32 g) h (ix2 r j)
      = rms n1024 (fun k => k0_pay33 y z (k0_pay32 g) (ix2 r k)) (fun k => h (ix2 0 k)) j := by
  simp only [pay33_apply]
  pointwise [k0_pay35, k0_pay33, k0_pay32]; rfl

/-- The second half's normalised rows. -/
theorem pay37_apply (y : FVec Ideal S256x1024 .f32) (h : Vec Ideal S1x1024 .f32) (r : Fin 256) (j : Fin 1024) :
    k0_pay37 y (k0_pay36 h) (ix2 r j) = rms n1024 (fun k => y (ix2 r k)) (fun k => h (ix2 0 k)) j := by
  pointwise [k0_pay37, k0_pay36]; rfl

/-- The first half's chunk 0. -/
theorem pay38_apply (h : FVec Ideal S256x1024 .bf16) (u w : Vec Ideal S1024x1024 .bf16) (r : Fin 256) (j : Fin 1024) :
    k0_pay38 h u w (ix2 r j) = ffn (fun k => h (ix2 r k)) (fun i k => u (ix2 i k)) (fun i k => w (ix2 i k)) j := by
  pointwise [k0_pay38]; rfl

/-- The second half's chunk 0. -/
theorem pay39_apply (y : FVec Ideal S256x1024 .f32) (g : Vec Ideal S1x1024 .f32) (u w : Vec Ideal S1024x1024 .bf16)
    (r : Fin 256) (j : Fin 1024) :
    k0_pay39 y (k0_pay36 g) u w (ix2 r j)
      = ffn (fun k => k0_pay37 y (k0_pay36 g) (ix2 r k)) (fun i k => u (ix2 i k)) (fun i k => w (ix2 i k)) j := by
  simp only [pay37_apply]
  pointwise [k0_pay39, k0_pay37, k0_pay36]; rfl

/-- The second half's chunk 1, added. -/
theorem pay41_apply (h : FVec Ideal S256x1024 .bf16) (a : FVec Ideal S256x1024 .f32) (u w : Vec Ideal S1024x1024 .bf16)
    (r : Fin 256) (j : Fin 1024) :
    k0_pay41 h a u w (ix2 r j)
      = a (ix2 r j) + ffn (fun k => h (ix2 r k)) (fun i k => u (ix2 i k)) (fun i k => w (ix2 i k)) j := by
  pointwise [k0_pay41]; rfl

/-- The first half's chunks 1 and 2, added. -/
theorem pay42_apply (h : FVec Ideal S256x1024 .bf16) (a : FVec Ideal S256x1024 .f32) (u w u' w' : Vec Ideal S1024x1024 .bf16)
    (r : Fin 256) (j : Fin 1024) :
    k0_pay42 h a (k0_pay40 u) w u' w' (ix2 r j)
      = a (ix2 r j) + ffn (fun k => h (ix2 r k)) (fun i k => u (ix2 i k)) (fun i k => w (ix2 i k)) j
          + ffn (fun k => h (ix2 r k)) (fun i k => u' (ix2 i k)) (fun i k => w' (ix2 i k)) j := by
  pointwise [k0_pay42, k0_pay40]; rfl

/-- The first half's chunk 3, added. -/
theorem pay44_apply (h : FVec Ideal S256x1024 .bf16) (a : FVec Ideal S256x1024 .f32) (u w : Vec Ideal S1024x1024 .bf16)
    (r : Fin 256) (j : Fin 1024) :
    k0_pay44 h a u w (ix2 r j)
      = a (ix2 r j) + ffn (fun k => h (ix2 r k)) (fun i k => u (ix2 i k)) (fun i k => w (ix2 i k)) j := by
  pointwise [k0_pay44]; rfl

/-- The second half's chunks 2 and 3, added. -/
theorem pay45_apply (h : FVec Ideal S256x1024 .bf16) (a : FVec Ideal S256x1024 .f32) (u w u' w' : Vec Ideal S1024x1024 .bf16)
    (r : Fin 256) (j : Fin 1024) :
    k0_pay45 h a (k0_pay43 h u) w u' w' (ix2 r j)
      = a (ix2 r j) + ffn (fun k => h (ix2 r k)) (fun i k => u (ix2 i k)) (fun i k => w (ix2 i k)) j
          + ffn (fun k => h (ix2 r k)) (fun i k => u' (ix2 i k)) (fun i k => w' (ix2 i k)) j := by
  pointwise [k0_pay45, k0_pay43]; rfl

/-- What the first half stores. -/
theorem pay1_apply (z : FVec Ideal S256x1024 .f32) (h : FVec Ideal S256x1024 .bf16) (a : FVec Ideal S256x1024 .f32)
    (u w : Vec Ideal S1024x1024 .bf16) (g : Vec Ideal S1x1024 .f32) (r : Fin 256) (j : Fin 1024) :
    k0_pay1 z (k0_pay44 h a u w) (k0_pay46 g) (k0_pay47 h a u w) (ix3 0 r j)
      = addRms n1024 (fun k => z (ix2 r k)) (fun k => k0_pay44 h a u w (ix2 r k)) (fun k => g (ix2 0 k)) j := by
  pointwise [k0_pay1, k0_pay46, k0_pay47]; rfl

/-- What the second half stores. -/
theorem pay2_apply (z a : FVec Ideal S256x1024 .f32) (g : Vec Ideal S1x1024 .f32) (r : Fin 256) (j : Fin 1024) :
    k0_pay2 z a g (ix3 0 r j)
      = addRms n1024 (fun k => z (ix2 r k)) (fun k => a (ix2 r k)) (fun k => g (ix2 0 k)) j := by
  pointwise [k0_pay2]; rfl

end Cert.Post
-- ==== Proof.PostBlock.lean ====
/-
  What the kernel's body leaves in its output block, at an index: the call's row function of the token's rows and of the
  operands that the block's tokens share.
-/
module

public import proofs.«01_k».proof.Proof.PostPay
public import proofs.«01_k».proof.Proof.Gen.KernelIdeal.Frame
public import Idealize.ShloMosaic.Lib.Pipeline.ValueKit

@[expose] public section

set_option maxRecDepth 16384

noncomputable section

namespace Cert.Post

open Idealize.ShloMosaic Cert.KernelIdeal Cert.KernelIdeal.Gen

/-- The operands that the tokens of a block share, from the blocks of the windows that stage them. -/
def wts (x3 : Vec Ideal S1x1024x256 .bf16) (x4 : Vec Ideal S1x256x1024 .bf16) (x5 x6 : Vec Ideal S1x512 .f32)
    (x7 x8 : Vec Ideal S512x1024 .bf16) (x9 x10 : Vec Ideal S1x1024 .f32) (x11 x12 : Vec Ideal S1024x1024 .bf16)
    (x13 x14 : Vec Ideal S1x1024 .f32) (x15 : Vec Ideal S1024x4096 .bf16) (x16 : Vec Ideal S4096x1024 .bf16)
    (x17 : Vec Ideal S1x1024 .f32) : Weights where
  gA k := x5 (ix2 0 k)
  gL k := x6 (ix2 0 k)
  wA i k := x7 (ix2 i k)
  wL i k := x8 (ix2 i k)
  gMix k := x9 (ix2 0 k)
  gX k := x10 (ix2 0 k)
  wq i k := x11 (ix2 i k)
  kt d m := x3 (ix3 0 d m)
  v m d := x4 (ix3 0 m d)
  wo i k := x12 (ix2 i k)
  gXo k := x13 (ix2 0 k)
  gH k := x14 (ix2 0 k)
  w1 i k := x15 (ix2 i k)
  w2 i k := x16 (ix2 i k)
  gHo k := x17 (ix2 0 k)

variable (x0 : Vec Ideal S1x512x1024 .f32) (x1 x2 : Vec Ideal S1x512x512 .f32)
  (x3 : Vec Ideal S1x1024x256 .bf16) (x4 : Vec Ideal S1x256x1024 .bf16) (x5 x6 : Vec Ideal S1x512 .f32)
  (x7 x8 : Vec Ideal S512x1024 .bf16) (x9 x10 : Vec Ideal S1x1024 .f32) (x11 x12 : Vec Ideal S1024x1024 .bf16)
  (x13 x14 : Vec Ideal S1x1024 .f32) (x15 : Vec Ideal S1024x4096 .bf16) (x16 : Vec Ideal S4096x1024 .bf16)
  (x17 : Vec Ideal S1x1024 .f32)

/-- The first half's row `r` in the block. -/
def lo (r : Fin 256) : Fin 512 := ⟨r.val, by omega⟩
/-- The second half's row `r` in the block. -/
def hi (r : Fin 256) : Fin 512 := ⟨256 + r.val, by omega⟩

/-- A token of the block after the mixer. -/
def bx1 (R : Fin 512) : Fin 1024 → EReal :=
  (wts x3 x4 x5 x6 x7 x8 x9 x10 x11 x12 x13 x14 x15 x16 x17).x1 (fun k => x0 (ix3 0 R k)) (fun k => x1 (ix3 0 R k)) (fun k => x2 (ix3 0 R k))

/-- The first half's tokens after the mixer. -/
theorem pay48_apply (r : Fin 256) (j : Fin 1024) :
    k0_pay48 x0 x1 x2 x3 x4 x5 x6 x7 x8 x9 x10 x11 x12 x13 x14 x15 x16 x17 (ix2 r j) = bx1 x0 x1 x2 x3 x4 x5 x6 x7 x8 x9 x10 x11 x12 x13 x14 x15 x16 x17 (lo r) j := by
  unfold k0_pay48
  simp only [pay12_apply, pay5_apply, pay9_apply]
  pointwise [bx1, Weights.x1, wts, lo]

/-- The first half's scaled queries. -/
theorem pay50_apply (r : Fin 256) (j : Fin 1024) :
    k0_pay50 x0 x1 x2 x3 x4 x5 x6 x7 x8 x9 x10 x11 x12 x13 x14 x15 x16 x17 (ix2 r j) = (wts x3 x4 x5 x6 x7 x8 x9 x10 x11 x12 x13 x14 x15 x16 x17).q (bx1 x0 x1 x2 x3 x4 x5 x6 x7 x8 x9 x10 x11 x12 x13 x14 x15 x16 x17 (lo r)) j := by
  unfold k0_pay50
  simp only [pay14_apply, pay48_apply]
  pointwise [Weights.q, wts]

/-- The second half's tokens after the mixer. -/
theorem pay49_apply (r : Fin 256) (j : Fin 1024) :
    k0_pay49 x0 x1 x2 x3 x4 x5 x6 x7 x8 x9 x10 x11 x12 x13 x14 x15 x16 x17 (ix2 r j) = bx1 x0 x1 x2 x3 x4 x5 x6 x7 x8 x9 x10 x11 x12 x13 x14 x15 x16 x17 (hi r) j := by
  unfold k0_pay49
  simp only [pay13_apply, pay8_apply, pay10_apply]
  pointwise [bx1, Weights.x1, wts, hi]

/-- The second half's scaled queries. -/
theorem pay51_apply (r : Fin 256) (j : Fin 1024) :
    k0_pay51 x0 x1 x2 x3 x4 x5 x6 x7 x8 x9 x10 x11 x12 x13 x14 x15 x16 x17 (ix2 r j) = (wts x3 x4 x5 x6 x7 x8 x9 x10 x11 x12 x13 x14 x15 x16 x17).q (bx1 x0 x1 x2 x3 x4 x5 x6 x7 x8 x9 x10 x11 x12 x13 x14 x15 x16 x17 (hi r)) j := by
  unfold k0_pay51
  simp only [pay15_apply, pay49_apply]
  pointwise [Weights.q, wts]

/-- The first half's cross attention, projected. -/
theorem pay52_apply (r : Fin 256) (j : Fin 1024) :
    k0_pay52 x0 x1 x2 x3 x4 x5 x6 x7 x8 x9 x10 x11 x12 x13 x14 x15 x16 x17 (ix2 r j) = mm ((wts x3 x4 x5 x6 x7 x8 x9 x10 x11 x12 x13 x14 x15 x16 x17).heads ((wts x3 x4 x5 x6 x7 x8 x9 x10 x11 x12 x13 x14 x15 x16 x17).q (bx1 x0 x1 x2 x3 x4 x5 x6 x7 x8 x9 x10 x11 x12 x13 x14 x15 x16 x17 (lo r)))) (wts x3 x4 x5 x6 x7 x8 x9 x10 x11 x12 x13 x14 x15 x16 x17).wo j := by
  unfold k0_pay52
  simp only [pay30_apply, pay17_apply, pay21_apply, pay25_apply]
  have e : ∀ i, k0_pay14 (k0_pay48 x0 x1 x2 x3 x4 x5 x6 x7 x8 x9 x10 x11 x12 x13 x14 x15 x16 x17) (View.ld x10 r0_6) (View.ld x11 r0_7) (ix2 r i) = (wts x3 x4 x5 x6 x7 x8 x9 x10 x11 x12 x13 x14 x15 x16 x17).q (bx1 x0 x1 x2 x3 x4 x5 x6 x7 x8 x9 x10 x11 x12 x13 x14 x15 x16 x17 (lo r)) i := fun i => pay50_apply x0 x1 x2 x3 x4 x5 x6 x7 x8 x9 x10 x11 x12 x13 x14 x15 x16 x17 r i
  simp only [e, pay50_apply]
  pointwise [Weights.heads, Weights.head, head4, wts]

/-- The second half's cross attention, projected, and added. -/
theorem pay54_apply (r : Fin 256) (j : Fin 1024) :
    k0_pay54 x0 x1 x2 x3 x4 x5 x6 x7 x8 x9 x10 x11 x12 x13 x14 x15 x16 x17 (ix2 r j) = (wts x3 x4 x5 x6 x7 x8 x9 x10 x11 x12 x13 x14 x15 x16 x17).x2 (bx1 x0 x1 x2 x3 x4 x5 x6 x7 x8 x9 x10 x11 x12 x13 x14 x15 x16 x17 (hi r)) j := by
  unfold k0_pay54
  simp only [pay34_apply, pay31_apply, pay18_apply, pay22_apply, pay26_apply, pay51_apply, pay49_apply]
  pointwise [Weights.x2, Weights.heads, Weights.head, head4, wts]

/-- The first half's tokens after the cross attention. -/
theorem pay33x_apply (r : Fin 256) (j : Fin 1024) :
    k0_pay33 (k0_pay48 x0 x1 x2 x3 x4 x5 x6 x7 x8 x9 x10 x11 x12 x13 x14 x15 x16 x17) (k0_pay52 x0 x1 x2 x3 x4 x5 x6 x7 x8 x9 x10 x11 x12 x13 x14 x15 x16 x17) (k0_pay53 x0 x1 x2 x3 x4 x5 x6 x7 x8 x9 x10 x11 x12 x13 x14 x15 x16 x17) (ix2 r j) = (wts x3 x4 x5 x6 x7 x8 x9 x10 x11 x12 x13 x14 x15 x16 x17).x2 (bx1 x0 x1 x2 x3 x4 x5 x6 x7 x8 x9 x10 x11 x12 x13 x14 x15 x16 x17 (lo r)) j := by
  unfold k0_pay53
  simp only [pay33_apply, pay52_apply, pay48_apply]
  pointwise [Weights.x2, wts]

/-- The first half's rows for the feed-forward part. -/
theorem pay55_apply (r : Fin 256) (j : Fin 1024) :
    k0_pay55 x0 x1 x2 x3 x4 x5 x6 x7 x8 x9 x10 x11 x12 x13 x14 x15 x16 x17 (ix2 r j) = (wts x3 x4 x5 x6 x7 x8 x9 x10 x11 x12 x13 x14 x15 x16 x17).hm ((wts x3 x4 x5 x6 x7 x8 x9 x10 x11 x12 x13 x14 x15 x16 x17).x2 (bx1 x0 x1 x2 x3 x4 x5 x6 x7 x8 x9 x10 x11 x12 x13 x14 x15 x16 x17 (lo r))) j := by
  have e := pay33x_apply x0 x1 x2 x3 x4 x5 x6 x7 x8 x9 x10 x11 x12 x13 x14 x15 x16 x17 r
  unfold k0_pay55
  unfold k0_pay53 at e ⊢
  simp only [pay35_apply, e]
  pointwise [Weights.hm, wts]

/-- The second half's rows for the feed-forward part. -/
theorem pay57_apply (r : Fin 256) (j : Fin 1024) :
    k0_pay57 x0 x1 x2 x3 x4 x5 x6 x7 x8 x9 x10 x11 x12 x13 x14 x15 x16 x17 (ix2 r j) = (wts x3 x4 x5 x6 x7 x8 x9 x10 x11 x12 x13 x14 x15 x16 x17).hm ((wts x3 x4 x5 x6 x7 x8 x9 x10 x11 x12 x13 x14 x15 x16 x17).x2 (bx1 x0 x1 x2 x3 x4 x5 x6 x7 x8 x9 x10 x11 x12 x13 x14 x15 x16 x17 (hi r))) j := by
  unfold k0_pay57 k0_pay56
  simp only [pay37_apply, pay54_apply]
  pointwise [Weights.hm, wts]

/-- The first half's feed-forward part. -/
theorem pay44x_apply (r : Fin 256) (j : Fin 1024) :
    k0_pay44 (k0_pay55 x0 x1 x2 x3 x4 x5 x6 x7 x8 x9 x10 x11 x12 x13 x14 x15 x16 x17) (k0_pay58 x0 x1 x2 x3 x4 x5 x6 x7 x8 x9 x10 x11 x12 x13 x14 x15 x16 x17) (View.ld x15 r0_22) (View.ld x16 r0_23) (ix2 r j)
      = (wts x3 x4 x5 x6 x7 x8 x9 x10 x11 x12 x13 x14 x15 x16 x17).acc ((wts x3 x4 x5 x6 x7 x8 x9 x10 x11 x12 x13 x14 x15 x16 x17).hm ((wts x3 x4 x5 x6 x7 x8 x9 x10 x11 x12 x13 x14 x15 x16 x17).x2 (bx1 x0 x1 x2 x3 x4 x5 x6 x7 x8 x9 x10 x11 x12 x13 x14 x15 x16 x17 (lo r)))) j := by
  unfold k0_pay58
  simp only [pay44_apply, pay42_apply, pay38_apply, pay55_apply]
  pointwise [Weights.acc, Weights.part, chunk4, wts]

/-- The second half's feed-forward part. -/
theorem pay45x_apply (r : Fin 256) (j : Fin 1024) :
    k0_pay45 (k0_pay57 x0 x1 x2 x3 x4 x5 x6 x7 x8 x9 x10 x11 x12 x13 x14 x15 x16 x17) (k0_pay41 (k0_pay57 x0 x1 x2 x3 x4 x5 x6 x7 x8 x9 x10 x11 x12 x13 x14 x15 x16 x17) (k0_pay39 (k0_pay54 x0 x1 x2 x3 x4 x5 x6 x7 x8 x9 x10 x11 x12 x13 x14 x15 x16 x17) (k0_pay56 x0 x1 x2 x3 x4 x5 x6 x7 x8 x9 x10 x11 x12 x13 x14 x15 x16 x17) (View.ld x15 r0_16) (View.ld x16 r0_17))
        (View.ld x15 r0_18) (View.ld x16 r0_19)) (k0_pay43 (k0_pay57 x0 x1 x2 x3 x4 x5 x6 x7 x8 x9 x10 x11 x12 x13 x14 x15 x16 x17) (View.ld x15 r0_20)) (View.ld x16 r0_21) (View.ld x15 r0_22)
        (View.ld x16 r0_23) (ix2 r j)
      = (wts x3 x4 x5 x6 x7 x8 x9 x10 x11 x12 x13 x14 x15 x16 x17).acc ((wts x3 x4 x5 x6 x7 x8 x9 x10 x11 x12 x13 x14 x15 x16 x17).hm ((wts x3 x4 x5 x6 x7 x8 x9 x10 x11 x12 x13 x14 x15 x16 x17).x2 (bx1 x0 x1 x2 x3 x4 x5 x6 x7 x8 x9 x10 x11 x12 x13 x14 x15 x16 x17 (hi r)))) j := by
  have e := fun k => pay57_apply x0 x1 x2 x3 x4 x5 x6 x7 x8 x9 x10 x11 x12 x13 x14 x15 x16 x17 r k
  unfold k0_pay57 k0_pay56 at e
  unfold k0_pay57 k0_pay56
  simp only [pay45_apply, pay41_apply, pay39_apply, e]
  pointwise [Weights.acc, Weights.part, chunk4, wts]

/-- What the body leaves in its output block. -/
theorem out_apply (y : S1x512x1024.Idx) :
    out0_18 x0 x1 x2 x3 x4 x5 x6 x7 x8 x9 x10 x11 x12 x13 x14 x15 x16 x17 y = (wts x3 x4 x5 x6 x7 x8 x9 x10 x11 x12 x13 x14 x15 x16 x17).x3 ((wts x3 x4 x5 x6 x7 x8 x9 x10 x11 x12 x13 x14 x15 x16 x17).x2 (bx1 x0 x1 x2 x3 x4 x5 x6 x7 x8 x9 x10 x11 x12 x13 x14 x15 x16 x17 (y 1))) (y 2) := by
  unfold out0_18
  refine View.canon_apply_of_pieces (Val := Elt Ideal) (e := .f32) (fun y : S1x512x1024.Idx => (wts x3 x4 x5 x6 x7 x8 x9 x10 x11 x12 x13 x14 x15 x16 x17).x3 ((wts x3 x4 x5 x6 x7 x8 x9 x10 x11 x12 x13 x14 x15 x16 x17).x2 (bx1 x0 x1 x2 x3 x4 x5 x6 x7 x8 x9 x10 x11 x12 x13 x14 x15 x16 x17 (y 1))) (y 2)) _ ?_ y
    (cover0_18 _ _ y)
  intro p hp z
  rcases List.mem_cons.mp hp with rfl | hp
  · idx_vars z
    obtain rfl : z0 = 0 := Subsingleton.elim _ _
    simp only [pay2_apply, pay45x_apply, pay54_apply]
    have e1 : r0_1.emb (ix3 0 z1 z2) 1 = hi z1 := Fin.ext (by show 256 + 1 * z1.val = _; simp only [hi]; omega)
    have e2 : r0_1.emb (ix3 0 z1 z2) 2 = z2 := Fin.ext (by show 0 + 1 * z2.val = _; omega)
    rw [e1, e2]
    pointwise [Weights.x3, wts]
  · obtain rfl := List.mem_singleton.mp hp
    idx_vars z
    obtain rfl : z0 = 0 := Subsingleton.elim _ _
    simp only [pay1_apply, pay44x_apply, pay33x_apply]
    have e1 : r0_0.emb (ix3 0 z1 z2) 1 = lo z1 := Fin.ext (by show 0 + 1 * z1.val = _; simp only [lo]; omega)
    have e2 : r0_0.emb (ix3 0 z1 z2) 2 = z2 := Fin.ext (by show 0 + 1 * z2.val = _; omega)
    rw [e1, e2]
    pointwise [Weights.x3, wts]

end Cert.Post
-- ==== Proof.PostArgs.lean ====
/-
  The call's argument arrays, and the row functions' operands read off them.
-/
module

public import proofs.«01_k».proof.Proof.Rows

@[expose] public section

set_option maxRecDepth 16384

noncomputable section

namespace Cert.Post

open Idealize.ShloMosaic

/-- The call's seventeen arguments, in order. -/
structure Args where
  x : FVec Ideal ⟨3, ![4, 8192, 1024]⟩ .f32
  att : FVec Ideal ⟨3, ![4, 8192, 512]⟩ .f32
  lru : FVec Ideal ⟨3, ![4, 8192, 512]⟩ .f32
  k : FVec Ideal ⟨3, ![4, 256, 1024]⟩ .f32
  v : FVec Ideal ⟨3, ![4, 256, 1024]⟩ .f32
  gA : FVec Ideal ⟨1, ![512]⟩ .f32
  gL : FVec Ideal ⟨1, ![512]⟩ .f32
  wOut : FVec Ideal ⟨2, ![1024, 1024]⟩ .f32
  gMix : FVec Ideal ⟨1, ![1024]⟩ .f32
  gX : FVec Ideal ⟨1, ![1024]⟩ .f32
  wq : FVec Ideal ⟨2, ![1024, 1024]⟩ .f32
  wo : FVec Ideal ⟨2, ![1024, 1024]⟩ .f32
  gXo : FVec Ideal ⟨1, ![1024]⟩ .f32
  gH : FVec Ideal ⟨1, ![1024]⟩ .f32
  gHo : FVec Ideal ⟨1, ![1024]⟩ .f32
  w1 : FVec Ideal ⟨2, ![1024, 4096]⟩ .f32
  w2 : FVec Ideal ⟨2, ![4096, 1024]⟩ .f32

/-- The operands that the tokens of batch element `b` share. -/
def Args.w (A : Args) (b : Fin 4) : Weights where
  gA k := A.gA (ix1 k)
  gL k := A.gL (ix1 k)
  wA i k := A.wOut (ix2 (⟨i.val, by omega⟩ : Fin 1024) k)
  wL i k := A.wOut (ix2 (⟨512 + i.val, by omega⟩ : Fin 1024) k)
  gMix k := A.gMix (ix1 k)
  gX k := A.gX (ix1 k)
  wq i k := A.wq (ix2 i k)
  kt d m := A.k (ix3 b m d)
  v m d := A.v (ix3 b m d)
  wo i k := A.wo (ix2 i k)
  gXo k := A.gXo (ix1 k)
  gH k := A.gH (ix1 k)
  w1 i k := A.w1 (ix2 i k)
  w2 i k := A.w2 (ix2 i k)
  gHo k := A.gHo (ix1 k)

/-- The call's result at token `s` of batch element `b`. -/
def Args.out (A : Args) (b : Fin 4) (s : Fin 8192) : Fin 1024 → EReal :=
  (A.w b).out (fun k => A.x (ix3 b s k)) (fun k => A.att (ix3 b s k)) (fun k => A.lru (ix3 b s k))

end Cert.Post
-- ==== Proof.PostArray.lean ====
/-
  The kernel's result array: the call's row function at every token.
-/
module

public import proofs.«01_k».proof.Proof.PostBlock
public import proofs.«01_k».proof.Proof.PostArgs
public import proofs.«01_k».proof.Proof.Gen.KernelIdeal.Value
public import Idealize.ShloMosaic.Lib.StableHlo.ReadAt

@[expose] public section

set_option maxRecDepth 16384

noncomputable section

namespace Cert.Post

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg) (c : Dev nD)

/-- The arguments as launched. -/
def kargs : Args where
  x := m ((c : Thread nD τ).loc main_arg0)
  att := m ((c : Thread nD τ).loc main_arg1)
  lru := m ((c : Thread nD τ).loc main_arg2)
  k := m ((c : Thread nD τ).loc main_arg3)
  v := m ((c : Thread nD τ).loc main_arg4)
  gA := m ((c : Thread nD τ).loc main_arg5)
  gL := m ((c : Thread nD τ).loc main_arg6)
  wOut := m ((c : Thread nD τ).loc main_arg7)
  gMix := m ((c : Thread nD τ).loc main_arg8)
  gX := m ((c : Thread nD τ).loc main_arg9)
  wq := m ((c : Thread nD τ).loc main_arg10)
  wo := m ((c : Thread nD τ).loc main_arg11)
  gXo := m ((c : Thread nD τ).loc main_arg12)
  gH := m ((c : Thread nD τ).loc main_arg13)
  gHo := m ((c : Thread nD τ).loc main_arg14)
  w1 := m ((c : Thread nD τ).loc main_arg15)
  w2 := m ((c : Thread nD τ).loc main_arg16)

/-! ## The arrays the host prepares -/

/-- The transposed keys. -/
theorem V_kt (b : Fin 4) (d : Fin 1024) (k : Fin 256) : V m c main_v2 (ix3 b d k) = (kargs m c).k (ix3 b k d) := by
  unfold V; after_reads_at; rfl
/-- The values. -/
theorem V_v (b : Fin 4) (k : Fin 256) (d : Fin 1024) : V m c main_v3 (ix3 b k d) = (kargs m c).v (ix3 b k d) := by
  unfold V; after_reads_at; rfl
/-- The mixer's gain on the attention row. -/
theorem V_gA (k : Fin 512) : V m c main_v4 (ix2 0 k) = (kargs m c).gA (ix1 k) := by
  unfold V; after_reads_at; rfl
/-- The mixer's gain on the recurrence row. -/
theorem V_gL (k : Fin 512) : V m c main_v5 (ix2 0 k) = (kargs m c).gL (ix1 k) := by
  unfold V; after_reads_at; rfl
/-- The upper half of the mixer's matrix. -/
theorem V_wA (i : Fin 512) (k : Fin 1024) : V m c main_v6 (ix2 i k) = (kargs m c).wOut (ix2 (⟨i.val, by omega⟩ : Fin 1024) k) := by
  unfold V; after_reads_at; rfl
/-- The lower half of the mixer's matrix. -/
theorem V_wL (i : Fin 512) (k : Fin 1024) : V m c main_v7 (ix2 i k) = (kargs m c).wOut (ix2 (⟨512 + i.val, by omega⟩ : Fin 1024) k) := by
  unfold V; after_reads_at; rfl
/-- The gain after the mixer. -/
theorem V_gMix (k : Fin 1024) : V m c main_v8 (ix2 0 k) = (kargs m c).gMix (ix1 k) := by
  unfold V; after_reads_at; rfl
/-- The gain before the cross attention. -/
theorem V_gX (k : Fin 1024) : V m c main_v9 (ix2 0 k) = (kargs m c).gX (ix1 k) := by
  unfold V; after_reads_at; rfl
/-- The query matrix. -/
theorem V_wq (i k : Fin 1024) : V m c main_v10 (ix2 i k) = (kargs m c).wq (ix2 i k) := by
  unfold V; after_reads_at; rfl
/-- The output matrix. -/
theorem V_wo (i k : Fin 1024) : V m c main_v11 (ix2 i k) = (kargs m c).wo (ix2 i k) := by
  unfold V; after_reads_at; rfl
/-- The gain after the cross attention. -/
theorem V_gXo (k : Fin 1024) : V m c main_v12 (ix2 0 k) = (kargs m c).gXo (ix1 k) := by
  unfold V; after_reads_at; rfl
/-- The gain before the feed-forward part. -/
theorem V_gH (k : Fin 1024) : V m c main_v13 (ix2 0 k) = (kargs m c).gH (ix1 k) := by
  unfold V; after_reads_at; rfl
/-- The first feed-forward matrix. -/
theorem V_w1 (i : Fin 1024) (k : Fin 4096) : V m c main_v14 (ix2 i k) = (kargs m c).w1 (ix2 i k) := by
  unfold V; after_reads_at; rfl
/-- The second feed-forward matrix. -/
theorem V_w2 (i : Fin 4096) (k : Fin 1024) : V m c main_v15 (ix2 i k) = (kargs m c).w2 (ix2 i k) := by
  unfold V; after_reads_at; rfl
/-- The gain after the feed-forward part. -/
theorem V_gHo (k : Fin 1024) : V m c main_v16 (ix2 0 k) = (kargs m c).gHo (ix1 k) := by
  unfold V; after_reads_at; rfl

/-! ## The windows' blocks -/

/-- Window 0's block index. -/
theorem e0 : ∀ t : Fin cfg0.N, win0_0.index t = ![(grid0.coords t 0).val, (grid0.coords t 1).val, 0] :=
  (by decide +kernel : ∀ t : Fin grid0.N, _)
/-- Window 1's block index. -/
theorem e1 : ∀ t : Fin cfg0.N, win0_1.index t = ![(grid0.coords t 0).val, (grid0.coords t 1).val, 0] :=
  (by decide +kernel : ∀ t : Fin grid0.N, _)
/-- Window 2's block index. -/
theorem e2 : ∀ t : Fin cfg0.N, win0_2.index t = ![(grid0.coords t 0).val, (grid0.coords t 1).val, 0] :=
  (by decide +kernel : ∀ t : Fin grid0.N, _)
/-- Window 18's block index. -/
theorem e18 : ∀ t : Fin cfg0.N, win0_18.index t = ![(grid0.coords t 0).val, (grid0.coords t 1).val, 0] :=
  (by decide +kernel : ∀ t : Fin grid0.N, _)
/-- Window 3's block index. -/
theorem e3 : ∀ t : Fin cfg0.N, win0_3.index t = ![(grid0.coords t 0).val, 0, 0] :=
  (by decide +kernel : ∀ t : Fin grid0.N, _)
/-- Window 4's block index. -/
theorem e4 : ∀ t : Fin cfg0.N, win0_4.index t = ![(grid0.coords t 0).val, 0, 0] :=
  (by decide +kernel : ∀ t : Fin grid0.N, _)
/-- Window 5's block index. -/
theorem e5 : ∀ t : Fin cfg0.N, win0_5.index t = ![0, 0] :=
  (by decide +kernel : ∀ t : Fin grid0.N, _)
/-- Window 6's block index. -/
theorem e6 : ∀ t : Fin cfg0.N, win0_6.index t = ![0, 0] :=
  (by decide +kernel : ∀ t : Fin grid0.N, _)
/-- Window 7's block index. -/
theorem e7 : ∀ t : Fin cfg0.N, win0_7.index t = ![0, 0] :=
  (by decide +kernel : ∀ t : Fin grid0.N, _)
/-- Window 8's block index. -/
theorem e8 : ∀ t : Fin cfg0.N, win0_8.index t = ![0, 0] :=
  (by decide +kernel : ∀ t : Fin grid0.N, _)
/-- Window 9's block index. -/
theorem e9 : ∀ t : Fin cfg0.N, win0_9.index t = ![0, 0] :=
  (by decide +kernel : ∀ t : Fin grid0.N, _)
/-- Window 10's block index. -/
theorem e10 : ∀ t : Fin cfg0.N, win0_10.index t = ![0, 0] :=
  (by decide +kernel : ∀ t : Fin grid0.N, _)
/-- Window 11's block index. -/
theorem e11 : ∀ t : Fin cfg0.N, win0_11.index t = ![0, 0] :=
  (by decide +kernel : ∀ t : Fin grid0.N, _)
/-- Window 12's block index. -/
theorem e12 : ∀ t : Fin cfg0.N, win0_12.index t = ![0, 0] :=
  (by decide +kernel : ∀ t : Fin grid0.N, _)
/-- Window 13's block index. -/
theorem e13 : ∀ t : Fin cfg0.N, win0_13.index t = ![0, 0] :=
  (by decide +kernel : ∀ t : Fin grid0.N, _)
/-- Window 14's block index. -/
theorem e14 : ∀ t : Fin cfg0.N, win0_14.index t = ![0, 0] :=
  (by decide +kernel : ∀ t : Fin grid0.N, _)
/-- Window 15's block index. -/
theorem e15 : ∀ t : Fin cfg0.N, win0_15.index t = ![0, 0] :=
  (by decide +kernel : ∀ t : Fin grid0.N, _)
/-- Window 16's block index. -/
theorem e16 : ∀ t : Fin cfg0.N, win0_16.index t = ![0, 0] :=
  (by decide +kernel : ∀ t : Fin grid0.N, _)
/-- Window 17's block index. -/
theorem e17 : ∀ t : Fin cfg0.N, win0_17.index t = ![0, 0] :=
  (by decide +kernel : ∀ t : Fin grid0.N, _)

/-- A point's batch element. -/
def pb (t : Fin cfg0.N) : Fin 4 := ⟨(grid0.coords t 0).val, (grid0.coords t 0).isLt⟩
/-- Row `R` of a point's block, as a token. -/
def ps (t : Fin cfg0.N) (R : Fin 512) : Fin 8192 :=
  ⟨(grid0.coords t 1).val * 512 + R.val, by have := (grid0.coords t 1).isLt; have h : grid0.bound 1 = 16 := rfl; omega⟩

/-- Window 0's block holds the point's tokens. -/
theorem iblk0_apply (t : Fin cfg0.N) (R : Fin 512) (k : Fin 1024) :
    iblk m c 0 t (ix3 0 R k) = (kargs m c).x (ix3 (pb t) (ps t R) k) := by
  blk_simp [iblk]
  rw [V_main_arg0]
  exact congrArg _ (by blk_ext [e0, pb, ps])

/-- Window 1's block holds the point's tokens. -/
theorem iblk1_apply (t : Fin cfg0.N) (R : Fin 512) (k : Fin 512) :
    iblk m c 1 t (ix3 0 R k) = (kargs m c).att (ix3 (pb t) (ps t R) k) := by
  blk_simp [iblk]
  rw [V_main_arg1]
  exact congrArg _ (by blk_ext [e1, pb, ps])

/-- Window 2's block holds the point's tokens. -/
theorem iblk2_apply (t : Fin cfg0.N) (R : Fin 512) (k : Fin 512) :
    iblk m c 2 t (ix3 0 R k) = (kargs m c).lru (ix3 (pb t) (ps t R) k) := by
  blk_simp [iblk]
  rw [V_main_arg2]
  exact congrArg _ (by blk_ext [e2, pb, ps])

/-- Window 3's block holds the point's batch element. -/
theorem iblk3_apply (t : Fin cfg0.N) (i : Fin 1024) (k : Fin 256) :
    iblk m c 3 t (ix3 0 i k) = (kargs m c).k (ix3 (pb t) k i) := by
  blk_simp [iblk]
  exact (congrArg _ (by blk_ext [e3, pb])).trans (V_kt m c (pb t) i k)

/-- Window 4's block holds the point's batch element. -/
theorem iblk4_apply (t : Fin cfg0.N) (i : Fin 256) (k : Fin 1024) :
    iblk m c 4 t (ix3 0 i k) = (kargs m c).v (ix3 (pb t) i k) := by
  blk_simp [iblk]
  exact (congrArg _ (by blk_ext [e4, pb])).trans (V_v m c (pb t) i k)

/-- Window 5's block is its whole array. -/
theorem iblk5_apply (t : Fin cfg0.N) (k : Fin 512) :
    iblk m c 5 t (ix2 0 k) = (kargs m c).gA (ix1 k) := by
  blk_simp [iblk]
  exact (congrArg _ (by blk_ext [e5])).trans (V_gA m c k)

/-- Window 6's block is its whole array. -/
theorem iblk6_apply (t : Fin cfg0.N) (k : Fin 512) :
    iblk m c 6 t (ix2 0 k) = (kargs m c).gL (ix1 k) := by
  blk_simp [iblk]
  exact (congrArg _ (by blk_ext [e6])).trans (V_gL m c k)

/-- Window 7's block is its whole array. -/
theorem iblk7_apply (t : Fin cfg0.N) (i : Fin 512) (k : Fin 1024) :
    iblk m c 7 t (ix2 i k) = (kargs m c).wOut (ix2 (⟨i.val, by omega⟩ : Fin 1024) k) := by
  blk_simp [iblk]
  exact (congrArg _ (by blk_ext [e7])).trans (V_wA m c i k)

/-- Window 8's block is its whole array. -/
theorem iblk8_apply (t : Fin cfg0.N) (i : Fin 512) (k : Fin 1024) :
    iblk m c 8 t (ix2 i k) = (kargs m c).wOut (ix2 (⟨512 + i.val, by omega⟩ : Fin 1024) k) := by
  blk_simp [iblk]
  exact (congrArg _ (by blk_ext [e8])).trans (V_wL m c i k)

/-- Window 9's block is its whole array. -/
theorem iblk9_apply (t : Fin cfg0.N) (k : Fin 1024) :
    iblk m c 9 t (ix2 0 k) = (kargs m c).gMix (ix1 k) := by
  blk_simp [iblk]
  exact (congrArg _ (by blk_ext [e9])).trans (V_gMix m c k)

/-- Window 10's block is its whole array. -/
theorem iblk10_apply (t : Fin cfg0.N) (k : Fin 1024) :
    iblk m c 10 t (ix2 0 k) = (kargs m c).gX (ix1 k) := by
  blk_simp [iblk]
  exact (congrArg _ (by blk_ext [e10])).trans (V_gX m c k)

/-- Window 11's block is its whole array. -/
theorem iblk11_apply (t : Fin cfg0.N) (i : Fin 1024) (k : Fin 1024) :
    iblk m c 11 t (ix2 i k) = (kargs m c).wq (ix2 i k) := by
  blk_simp [iblk]
  exact (congrArg _ (by blk_ext [e11])).trans (V_wq m c i k)

/-- Window 12's block is its whole array. -/
theorem iblk12_apply (t : Fin cfg0.N) (i : Fin 1024) (k : Fin 1024) :
    iblk m c 12 t (ix2 i k) = (kargs m c).wo (ix2 i k) := by
  blk_simp [iblk]
  exact (congrArg _ (by blk_ext [e12])).trans (V_wo m c i k)

/-- Window 13's block is its whole array. -/
theorem iblk13_apply (t : Fin cfg0.N) (k : Fin 1024) :
    iblk m c 13 t (ix2 0 k) = (kargs m c).gXo (ix1 k) := by
  blk_simp [iblk]
  exact (congrArg _ (by blk_ext [e13])).trans (V_gXo m c k)

/-- Window 14's block is its whole array. -/
theorem iblk14_apply (t : Fin cfg0.N) (k : Fin 1024) :
    iblk m c 14 t (ix2 0 k) = (kargs m c).gH (ix1 k) := by
  blk_simp [iblk]
  exact (congrArg _ (by blk_ext [e14])).trans (V_gH m c k)

/-- Window 15's block is its whole array. -/
theorem iblk15_apply (t : Fin cfg0.N) (i : Fin 1024) (k : Fin 4096) :
    iblk m c 15 t (ix2 i k) = (kargs m c).w1 (ix2 i k) := by
  blk_simp [iblk]
  exact (congrArg _ (by blk_ext [e15])).trans (V_w1 m c i k)

/-- Window 16's block is its whole array. -/
theorem iblk16_apply (t : Fin cfg0.N) (i : Fin 4096) (k : Fin 1024) :
    iblk m c 16 t (ix2 i k) = (kargs m c).w2 (ix2 i k) := by
  blk_simp [iblk]
  exact (congrArg _ (by blk_ext [e16])).trans (V_w2 m c i k)

/-- Window 17's block is its whole array. -/
theorem iblk17_apply (t : Fin cfg0.N) (k : Fin 1024) :
    iblk m c 17 t (ix2 0 k) = (kargs m c).gHo (ix1 k) := by
  blk_simp [iblk]
  exact (congrArg _ (by blk_ext [e17])).trans (V_gHo m c k)

/-- What the tokens of a point's block share is what its batch element's tokens share. -/
theorem wts_iblk (t : Fin cfg0.N) : wts (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) = (kargs m c).w (pb t) := by
  unfold wts Args.w
  simp only [iblk3_apply, iblk4_apply, iblk5_apply, iblk6_apply, iblk7_apply, iblk8_apply, iblk9_apply, iblk10_apply, iblk11_apply,
    iblk12_apply, iblk13_apply, iblk14_apply, iblk15_apply, iblk16_apply, iblk17_apply]

/-- What a point leaves in its block: the call's result at the point's tokens. -/
theorem out_iblk (t : Fin cfg0.N) (R : Fin 512) (j : Fin 1024) :
    out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (ix3 0 R j) = (kargs m c).out (pb t) (ps t R) j := by
  have e : out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (ix3 0 R j) = (wts (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)).x3 ((wts (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)).x2 (bx1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) R)) j := out_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (ix3 0 R j)
  rw [e]
  unfold bx1 Args.out Weights.out
  rw [wts_iblk]
  simp only [iblk0_apply, iblk1_apply, iblk2_apply]

/-- The result array. -/
def kresult : FVec Ideal S4x8192x1024 .f32 := fun i => (kargs m c).out (i 0) (i 1) (i 2)

/-- The kernel's result array is the call's result at every token. -/
theorem arr_eq : (dats m 0 c).arrAt 18 cfg0.N = kresult m c := by
  refine (dats m 0 c).arrAt_eq_of_covers 18 _ (by decide +kernel) fun t hf y => ?_
  blk_simp
  rw [after0_18]
  idx_vars y
  obtain rfl : y0 = 0 := Subsingleton.elim _ _
  refine (out_iblk m c t y1 y2).trans ?_
  have h : (win0_18.blk t).view.emb (ix3 0 y1 y2) = ix3 (pb t) (ps t y1) y2 := by blk_ext [e18, pb, ps]
  rw [h]
  rfl

end Cert.Post
-- ==== Proof.PostScore.lean ====
module

public import proofs.«01_k».proof.Proof.PostArgs
public import proofs.«01_k».proof.Proof.Gen.ReferenceIdeal.Run
public import Idealize.ShloMosaic.Lib.Pointwise
public import Idealize.ShloMosaic.Lib.IdealHost

/-! The reference's result, token by token, is the row function of `Rows`. -/

@[expose] public section

set_option maxRecDepth 16384

noncomputable section

namespace Cert.Post

open Idealize.ShloMosaic Idealize.ShloMosaic.TcCoe Idealize.SL.Sem Cert.ReferenceIdeal Cert.ReferenceIdeal.Value
  Idealize.ShloMosaic.StableHlo

/-- A finite nonnegative factor goes inside a sum. -/
theorem sum_mul_const {ι : Type*} (s : Finset ι) (f : ι → EReal) (c : EReal) (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-- The scale of the scores is the real number one sixteenth. -/
theorem sixteenth_eq : sixteenth = (((1 : ℝ) / 16 : ℝ) : EReal) := by
  simp [sixteenth, Ideal.ofBits, Ideal.ieee, -EReal.coe_mul]; norm_num

/-- Scaling the scores is scaling the query. -/
theorem scores_scaled {D : ℕ} (q k : Fin D → EReal) :
    (∑ d, q d * k d) * sixteenth = ∑ d, q d * sixteenth * k d := by
  rw [sum_mul_const _ _ _ (by rw [sixteenth_eq]; exact_mod_cast (by norm_num : (0 : ℝ) ≤ 1 / 16))
    (by rw [sixteenth_eq]; exact EReal.coe_ne_top _)]
  exact Finset.sum_congr rfl fun d _ => mul_right_comm _ _ _

/-- Taking the largest with the starting value again changes nothing. -/
theorem max_rowMax {M : ℕ} (s : Fin M → EReal) : max (Ideal.ofBits .f32 0xFF800000#32) (rowMax s) = rowMax s :=
  max_eq_right ((Finset.le_fold_max _).2 (Or.inl le_rfl))

/-- The four heads side by side, read at a position. -/
theorem cat4_apply (f : (h : ℕ) → h < 4 → Fin 256 → EReal) (x : Fin 1024) :
    cat4 (f 0 (by omega)) (f 1 (by omega)) (f 2 (by omega)) (f 3 (by omega)) x
      = f (x.val / 256) (by omega) ⟨x.val % 256, by omega⟩ := by
  obtain ⟨x, hx⟩ := x
  unfold cat4
  have key : ∀ (h : ℕ) (hh : h < 4) (d : ℕ) (hd : d < 256), x = h * 256 + d →
      f h hh ⟨d, hd⟩ = f (x / 256) (by omega) ⟨x % 256, by omega⟩ := by
    intro h hh d hd e
    have e1 : h = x / 256 := by omega
    have e2 : d = x % 256 := by omega
    subst e1; subst e2; rfl
  split
  · exact key 0 _ _ _ (by simp)
  · split
    · exact key 1 _ _ _ (by simp only at *; omega)
    · split
      · exact key 2 _ _ _ (by simp only at *; omega)
      · exact key 3 _ _ _ (by simp only at *; omega)

/-- The feed-forward part all at once. -/
theorem acc_eq (W : Weights) (h : Fin 1024 → EReal) (j : Fin 1024) : ffn h W.w1 W.w2 j = W.acc h j := by
  unfold ffn
  rw [mm, Fin.sum_univ_tiles 4 1024 (by norm_num)]
  rw [Fin.sum_univ_four]
  rfl

variable (V : Valuation τ sig (Elt Ideal))

/-- The arguments that the reference finds. -/
def rargs : Args where
  x := V (Proc.devRef .tc main_arg0)
  att := V (Proc.devRef .tc main_arg1)
  lru := V (Proc.devRef .tc main_arg2)
  k := V (Proc.devRef .tc main_arg3)
  v := V (Proc.devRef .tc main_arg4)
  gA := V (Proc.devRef .tc main_arg5)
  gL := V (Proc.devRef .tc main_arg6)
  wOut := V (Proc.devRef .tc main_arg7)
  gMix := V (Proc.devRef .tc main_arg8)
  gX := V (Proc.devRef .tc main_arg9)
  wq := V (Proc.devRef .tc main_arg10)
  wo := V (Proc.devRef .tc main_arg11)
  gXo := V (Proc.devRef .tc main_arg12)
  gH := V (Proc.devRef .tc main_arg13)
  gHo := V (Proc.devRef .tc main_arg14)
  w1 := V (Proc.devRef .tc main_arg15)
  w2 := V (Proc.devRef .tc main_arg16)

/-- The token after the mixer's projection, as the reference has it. -/
def rx1 (b : Fin 4) (s : Fin 8192) : Fin 1024 → EReal :=
  ((rargs V).w b).x1 (fun k => (rargs V).x (ix3 b s k)) (fun k => (rargs V).att (ix3 b s k))
    (fun k => (rargs V).lru (ix3 b s k))

/-- The mixer's projection. -/
theorem v27_apply (b : Fin 4) (s : Fin 8192) (j : Fin 1024) :
    res_main_v27 V (ix3 b s j)
      = mm (rms n512 (fun k => (rargs V).att (ix3 b s k)) ((rargs V).w b).gA) ((rargs V).w b).wA j
        + mm (rms n512 (fun k => (rargs V).lru (ix3 b s k)) ((rargs V).w b).gL) ((rargs V).w b).wL j := by
  pointwise [res_main_v27]
  rfl

/-- The token after the mixer's projection. -/
theorem v41_apply (b : Fin 4) (s : Fin 8192) (j : Fin 1024) : res_main_v41 V (ix3 b s j) = rx1 V b s j := by
  pointwise [res_main_v41, v27_apply]
  rfl

/-- The scaled query's row. -/
def rq (b : Fin 4) (s : Fin 8192) : Fin 1024 → EReal := ((rargs V).w b).q (rx1 V b s)

/-- The scores of head `h`. -/
def rscore (b : Fin 4) (s : Fin 8192) (h : Fin 4) : Fin 256 → EReal :=
  mm (fun d => rq V b s (head4 h.val h.isLt d)) (fun d m => ((rargs V).w b).kt (head4 h.val h.isLt d) m)

/-- The scores. -/
theorem v61_apply (b : Fin 4) (h : Fin 4) (s : Fin 8192) (m : Fin 256) :
    res_main_v61 V (ix4 b h s m) = rscore V b s h m := by
  pointwise [res_main_v61, v41_apply]
  exact scores_scaled
    (fun d => mm (rms n1024 (rx1 V b s) ((rargs V).w b).gX) ((rargs V).w b).wq (head4 h.val h.isLt d))
    (fun d => ((rargs V).w b).kt (head4 h.val h.isLt d) m)

end Cert.Post
-- ==== Proof.PostRef.lean ====
module

public import proofs.«01_k».proof.Proof.PostScore
public import proofs.«01_k».proof.Proof.Gen.ReferenceIdeal.Run
public import Idealize.ShloMosaic.Lib.Pointwise
public import Idealize.ShloMosaic.Lib.IdealHost

/-! The reference's result, token by token, is the row function of `Rows`. -/

@[expose] public section

set_option maxRecDepth 16384

noncomputable section

namespace Cert.Post

open Idealize.ShloMosaic Idealize.ShloMosaic.TcCoe Idealize.SL.Sem Cert.ReferenceIdeal Cert.ReferenceIdeal.Value
  Idealize.ShloMosaic.StableHlo

variable (V : Valuation τ sig (Elt Ideal))

/-- The host's largest entry of a row. -/
theorem reduce_row (x : FVec Ideal S4x4x8192x256 .f32) (b : Fin 4) (h : Fin 4) (s : Fin 8192) :
    Host.reduce (FloatOps.maximumf (F := Ideal) (φ := .f32)) x (constant (F := Ideal) S_ .f32 0xFF800000#32)
      Gen.reducesTo_S4x4x8192x256_S4x4x8192_d3 Gen.h_S_ (ix3 b h s) = rowMax (fun m => x (ix4 b h s m)) := by
  have hR : S4x4x8192x256.Reduces [3] S4x4x8192 := by decide
  refine (Host.reduce_eq_fold_single (FloatOps.maximumf (F := Ideal) (φ := .f32)) x _ _ hR _ _).trans ?_
  unfold rowMax
  refine Finset.fold_congr fun m _ => ?_
  refine congrArg x ?_
  funext a; fin_cases a <;> rfl

/-- A row's exponentials, as the host writes them. -/
theorem exp_row (x : FVec Ideal S4x4x8192x256 .f32) (R : FVec Ideal S4x4x8192 .f32) (b : Fin 4) (h : Fin 4)
    (s : Fin 8192) (m : Fin 256) :
    (Host.exp (subf x (broadcastInDim S4x4x8192x256 ![0, 1, 2, 3] Gen.bcast_S4x4x8192x1_S4x4x8192x256_0_1_2_3
      (broadcastInDim S4x4x8192x1 ![0, 1, 2] Gen.bcast_S4x4x8192_S4x4x8192x1_0_1_2
        (maximumf (broadcastInDim S4x4x8192 ![] Gen.bcast_S_S4x4x8192 (constant S_ .f32 0xFF800000#32)) R))))) (ix4 b h s m)
      = Ideal.exp (x (ix4 b h s m) - max (Ideal.ofBits .f32 0xFF800000#32) (R (ix3 b h s))) := by
  pointwise []

/-- The exponentials of the scores. -/
theorem v68_apply (b : Fin 4) (h : Fin 4) (s : Fin 8192) (m : Fin 256) :
    res_main_v68 V (ix4 b h s m) = Ideal.exp (rscore V b s h m - rowMax (rscore V b s h)) := by
  unfold res_main_v68
  refine (exp_row _ _ b h s m).trans ?_
  rw [reduce_row, v61_apply, max_rowMax]
  exact congrArg (fun f => Ideal.exp (rscore V b s h m - rowMax f)) (funext fun m => v61_apply V b h s m)

/-- The cross attention's projection. -/
theorem v76_apply (b : Fin 4) (s : Fin 8192) (j : Fin 1024) :
    res_main_v76 V (ix3 b s j) = mm (((rargs V).w b).heads (rq V b s)) ((rargs V).w b).wo j := by
  pointwise [res_main_v76, v68_apply]
  unfold mm
  refine @Finset.sum_congr (Fin 1024) EReal _ _ _ _ _ rfl fun x _ => ?_
  refine congrArg (fun y : EReal => y * _) ?_
  refine Eq.trans ?_ (cat4_apply (fun h hh => ((rargs V).w b).head (rq V b s) h hh) x).symm
  unfold Weights.head attend mm
  refine @Finset.sum_congr (Fin 256) EReal _ _ _ _ _ rfl fun m _ => ?_
  refine (mul_comm (G := EReal) _ _).trans ?_
  refine congrArg₂ (fun y z : EReal => y * z) rfl ?_
  have e : x = head4 (x.val / 256) (by omega) ⟨x.val % 256, by omega⟩ := Fin.ext (by simp only [head4]; omega)
  exact congrArg (fun y => V (Proc.devRef .tc main_arg4) (ix3 b m y)) e

/-- The token after the cross attention. -/
theorem v90_apply (b : Fin 4) (s : Fin 8192) (j : Fin 1024) :
    res_main_v90 V (ix3 b s j) = ((rargs V).w b).x2 (rx1 V b s) j := by
  pointwise [res_main_v90, v41_apply, v76_apply]
  rfl

/-- The feed-forward part. -/
theorem v107_apply (b : Fin 4) (s : Fin 8192) (j : Fin 1024) :
    res_main_v107 V (ix3 b s j)
      = ((rargs V).w b).acc (((rargs V).w b).hm (((rargs V).w b).x2 (rx1 V b s))) j := by
  rw [← acc_eq]
  pointwise [res_main_v107, res_main_v105, v90_apply]
  rfl

/-- The array of the row functions' results. -/
def rresult : FVec Ideal S4x8192x1024 .f32 := fun i => (rargs V).out (i 0) (i 1) (i 2)

/-- The reference's result is the row functions'. -/
theorem ref_eq :
    addf (res_main_v90 V) (mulf (mulf (res_main_v107 V) (broadcastInDim S4x8192x1024 ![0, 1, 2] Gen.bcast_S4x8192x1_S4x8192x1024_0_1_2 (Host.rsqrt (addf (Host.divf (broadcastInDim S4x8192x1 ![0, 1] Gen.bcast_S4x8192_S4x8192x1_0_1 (Host.reduceAdd (mulf (res_main_v107 V) (res_main_v107 V)) (constant S_ .f32 0x00000000#32) Gen.reducesTo_S4x8192x1024_S4x8192_d2 Gen.h_S_)) (broadcastInDim S4x8192x1 ![] Gen.bcast_S_S4x8192x1 (constant S_ .f32 0x44800000#32))) (broadcastInDim S4x8192x1 ![] Gen.bcast_S_S4x8192x1 (constant S_ .f32 0x358637BD#32)))))) (broadcastInDim S4x8192x1024 ![0, 1, 2] Gen.bcast_S1x1x1024_S4x8192x1024_0_1_2 (broadcastInDim S1x1x1024 ![2] Gen.bcast_S1024_S1x1x1024_2 (V (Proc.devRef .tc main_arg14)))))
      = rresult V := by
  funext i
  idx_vars i
  pointwise [v90_apply, v107_apply]
  rfl

end Cert.Post
-- ==== Proof.PostFinal.lean ====
module

public import proofs.«01_k».proof.Defs
public import proofs.«01_k».proof.Proof.PostArray
public import proofs.«01_k».proof.Proof.PostRef
public import proofs.«01_k».proof.Proof.Gen.Kernel.Frame
public import proofs.«01_k».proof.Proof.Gen.KernelIdeal.Frame
public import proofs.«01_k».proof.Proof.Gen.KernelIdeal.Value

/-! The claims on the call that ends the layer. -/

@[expose] public section

set_option maxRecDepth 16384

noncomputable section

namespace Cert.Post

open Idealize.ShloMosaic Idealize.ShloMosaic.TcCoe Idealize.SL.Sem Idealize.ShloMosaic.StableHlo

/-- The kernel as printed terminates, keeps its arguments and leaves every counter at zero. -/
theorem frame_kernel : Cert.quiescent_Kernel := fun m ρ _ => Cert.Kernel.Gen.frame m ρ

/-- The same of the kernel over the extended reals. -/
theorem frame_ideal : Cert.quiescent_KernelIdeal := fun m ρ _ => Cert.KernelIdeal.Gen.frame m ρ

/-- The same of the reference. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)

/-- No operation was rewritten. -/
theorem preserves : Cert.preserves_Kernel_KernelIdeal := trivial

/-- The kernel and the reference give the same array. -/
theorem algebraic : Cert.algebraic_KernelIdeal_ReferenceIdeal := fun m ρ m' ρ' _ hag =>
  have hargs : ∀ c, rargs (launchContents m' c) = kargs m c := fun c => by
    show Args.mk _ _ _ _ _ _ _ _ _ _ _ _ _ _ _ _ _ = Args.mk _ _ _ _ _ _ _ _ _ _ _ _ _ _ _ _ _
    rw [Args.mk.injEq]
    exact hag c
  have hres : ∀ c, rresult (launchContents m' c) = kresult m c := fun c => by
    unfold rresult kresult; rw [hargs c]
  ⟨fun c => kresult m c,
    (θ_run Cert.KernelIdeal.defs _ _).mono (fun _ h c => ⟨(h c).1.trans (arr_eq m c), (h c).2⟩)
      (Cert.KernelIdeal.Value.run_blocks m ρ),
    (θ_run Cert.ReferenceIdeal.defs _ _).mono
      (fun _ h c => ⟨(h c).1.trans ((ref_eq (launchContents m' c)).trans (hres c)), (h c).2⟩)
      (Cert.ReferenceIdeal.Value.run m' ρ')⟩

end Cert.Post
-- ==== Proof.LruFinal.lean ====
module

public import proofs.«01_k».proof.Defs
public import proofs.«01_k».proof.Proof.Gen.Kernel2.Frame
public import proofs.«01_k».proof.Proof.Gen.Kernel2Ideal.Frame

/-! The claims on the recurrence: its call runs to the end and keeps its arguments. Its value is not claimed. -/

@[expose] public section

set_option maxRecDepth 16384

noncomputable section

namespace Cert.Lru

open Idealize.ShloMosaic Idealize.SL.Sem

/-- The kernel as printed terminates, keeps its arguments and leaves every counter at zero. -/
theorem frame_kernel : Cert.quiescent_Kernel2 := fun m ρ _ => Cert.Kernel2.Gen.frame m ρ

/-- The same of the kernel over the extended reals. -/
theorem frame_ideal : Cert.quiescent_Kernel2Ideal := fun m ρ _ => Cert.Kernel2Ideal.Gen.frame m ρ

/-- No operation was rewritten. -/
theorem preserves : Cert.preserves_Kernel2_Kernel2Ideal := trivial

end Cert.Lru
-- ==== Proof.InRows.lean ====
module

public import proofs.«01_k».proof.Proof.Rows
public import Idealize.ShloMosaic.Lib.Pointwise

/-! The input projections, token by token. -/

@[expose] public section

noncomputable section

namespace Cert.Inproj

open Idealize.ShloMosaic Cert.Post

/-- The three arguments: the tokens, the gain and the matrix. -/
structure Args where
  x : FVec Ideal ⟨3, ![4, 8192, 1024]⟩ .f32
  g : FVec Ideal ⟨1, ![1024]⟩ .f32
  w : FVec Ideal ⟨2, ![1024, 2328]⟩ .f32

/-- The scale of the queries. -/
def qscale : EReal := Ideal.ofBits .f32 0x3E38AA3B#32

namespace Args
variable (A : Args)

/-- Token `r` of all the batch's tokens, one after the other. -/
def tok (r : Fin 32768) : Fin 1024 → EReal := fun k =>
  A.x (ix3 (⟨r.val / 8192, by omega⟩ : Fin 4) (⟨r.val % 8192, by omega⟩ : Fin 8192) k)

/-- Column `n` of the normalised token's projection. -/
def z (r : Fin 32768) (n : ℕ) (hn : n < 2328) : EReal :=
  mm (rms n1024 (A.tok r) (fun k => A.g (ix1 k))) (fun i n => A.w (ix2 i n)) ⟨n, hn⟩

/-- The scaled queries. -/
def rq (r : Fin 32768) (j : Fin 512) : EReal := A.z r j.val (by omega) * qscale
/-- The keys to compress. -/
def rkc (r : Fin 32768) (j : Fin 128) : EReal := A.z r (512 + j.val) (by omega)
/-- The values to compress. -/
def rvc (r : Fin 32768) (j : Fin 128) : EReal := A.z r (640 + j.val) (by omega)
/-- The selected and the window keys and values. -/
def rkv (r : Fin 32768) (j : Fin 512) : EReal := A.z r (768 + j.val) (by omega)
/-- The gates, then zeros. -/
def rgt (r : Fin 32768) (j : Fin 128) : EReal := if h : j.val < 24 then A.z r (1280 + j.val) (by omega) else 0
/-- The recurrence's inputs. -/
def rx (r : Fin 32768) (j : Fin 1024) : EReal := A.z r (1304 + j.val) (by omega)

end Args

end Cert.Inproj
-- ==== Proof.InKernel.lean ====
/-
  The input projections' kernel: its six result arrays, token by token.
-/
module

public import proofs.«01_k».proof.Proof.InRows
public import proofs.«01_k».proof.Proof.Gen.Kernel3Ideal.Value
public import Idealize.ShloMosaic.Lib.StableHlo.ReadAt
public import Idealize.ShloMosaic.Lib.Pipeline.ValueKit

@[expose] public section

set_option maxRecDepth 16384

noncomputable section

namespace Cert.Inproj

open Idealize.ShloMosaic Idealize.ShloMosaic.TcCoe Idealize.SL.Sem Cert.Post Cert.Kernel3Ideal Cert.Kernel3Ideal.Gen

/-- A block's row, normalised. -/
def hrow (x0 : Vec Ideal S1024x1024 .f32) (x1 : Vec Ideal S1x1024 .f32) (R : Fin 1024) : Fin 1024 → EReal :=
  rms n1024 (fun k => x0 (ix2 R k)) (fun k => x1 (ix2 0 k))

section
variable (x0 : Vec Ideal S1024x1024 .f32) (x1 : Vec Ideal S1x1024 .f32) (x2 : Vec Ideal S1024x512 .bf16) (x3 : Vec Ideal S1024x256 .bf16)
  (x4 : Vec Ideal S1024x512 .bf16) (x5 : Vec Ideal S1024x128 .bf16) (x6 : Vec Ideal S1024x1024 .bf16)

/-- The block's scaled queries, as stored. -/
theorem pay_apply7 (R : Fin 1024) (j : Fin 512) :
    k0_pay5 (View.ld x0 r0_0) (View.ld x1 r0_1) (View.ld x2 r0_2) (ix2 R j)
      = mm (hrow x0 x1 R) (fun i n => x2 (ix2 i n)) j * qscale := by
  pointwise [k0_pay1, k0_pay2, k0_pay3, k0_pay4, k0_pay5, k0_pay6, k0_pay7, k0_pay8, k0_pay9, k0_pay10]
  rfl

/-- The block's scaled queries. -/
theorem out_apply7 (y : S1024x512.Idx) :
    out0_7 x0 x1 x2 x3 x4 x5 x6 y = (fun (R : Fin 1024) (j : Fin 512) => mm (hrow x0 x1 R) (fun i n => x2 (ix2 i n)) j * qscale) (y 0) (y 1) := by
  unfold out0_7
  refine View.canon_apply_of_pieces (Val := Elt Ideal) (e := .bf16) (fun y : S1024x512.Idx => (fun (R : Fin 1024) (j : Fin 512) => mm (hrow x0 x1 R) (fun i n => x2 (ix2 i n)) j * qscale) (y 0) (y 1)) _ ?_ y
    (cover0_7 _ y)
  intro p hp z
  obtain rfl := List.mem_singleton.mp hp
  idx_vars z
  have e0 : r0_2.emb (ix2 z0 z1) 0 = z0 := Fin.ext (by show 0 + 1 * z0.val = _; omega)
  have e1 : r0_2.emb (ix2 z0 z1) 1 = z1 := Fin.ext (by show 0 + 1 * z1.val = _; omega)
  rw [e0, e1]
  apply pay_apply7

/-- The block's keys to compress, as stored. -/
theorem pay_apply8 (R : Fin 1024) (j : Fin 128) :
    k0_pay7 (View.ld x0 r0_0) (View.ld x1 r0_1) (View.ld x3 r0_3) (ix2 R j)
      = mm (hrow x0 x1 R) (fun i n => x3 (ix2 i n)) (⟨j.val, by omega⟩ : Fin 256) := by
  pointwise [k0_pay1, k0_pay2, k0_pay3, k0_pay4, k0_pay5, k0_pay6, k0_pay7, k0_pay8, k0_pay9, k0_pay10]
  rfl

/-- The block's keys to compress. -/
theorem out_apply8 (y : S1024x128.Idx) :
    out0_8 x0 x1 x2 x3 x4 x5 x6 y = (fun (R : Fin 1024) (j : Fin 128) => mm (hrow x0 x1 R) (fun i n => x3 (ix2 i n)) (⟨j.val, by omega⟩ : Fin 256)) (y 0) (y 1) := by
  unfold out0_8
  refine View.canon_apply_of_pieces (Val := Elt Ideal) (e := .f32) (fun y : S1024x128.Idx => (fun (R : Fin 1024) (j : Fin 128) => mm (hrow x0 x1 R) (fun i n => x3 (ix2 i n)) (⟨j.val, by omega⟩ : Fin 256)) (y 0) (y 1)) _ ?_ y
    (cover0_8 _ y)
  intro p hp z
  obtain rfl := List.mem_singleton.mp hp
  idx_vars z
  have e0 : r0_4.emb (ix2 z0 z1) 0 = z0 := Fin.ext (by show 0 + 1 * z0.val = _; omega)
  have e1 : r0_4.emb (ix2 z0 z1) 1 = z1 := Fin.ext (by show 0 + 1 * z1.val = _; omega)
  rw [e0, e1]
  apply pay_apply8

/-- The block's values to compress, as stored. -/
theorem pay_apply9 (R : Fin 1024) (j : Fin 128) :
    k0_pay8 (View.ld x0 r0_0) (View.ld x1 r0_1) (View.ld x3 r0_3) (ix2 R j)
      = mm (hrow x0 x1 R) (fun i n => x3 (ix2 i n)) (⟨128 + j.val, by omega⟩ : Fin 256) := by
  pointwise [k0_pay1, k0_pay2, k0_pay3, k0_pay4, k0_pay5, k0_pay6, k0_pay7, k0_pay8, k0_pay9, k0_pay10]
  rfl

/-- The block's values to compress. -/
theorem out_apply9 (y : S1024x128.Idx) :
    out0_9 x0 x1 x2 x3 x4 x5 x6 y = (fun (R : Fin 1024) (j : Fin 128) => mm (hrow x0 x1 R) (fun i n => x3 (ix2 i n)) (⟨128 + j.val, by omega⟩ : Fin 256)) (y 0) (y 1) := by
  unfold out0_9
  refine View.canon_apply_of_pieces (Val := Elt Ideal) (e := .f32) (fun y : S1024x128.Idx => (fun (R : Fin 1024) (j : Fin 128) => mm (hrow x0 x1 R) (fun i n => x3 (ix2 i n)) (⟨128 + j.val, by omega⟩ : Fin 256)) (y 0) (y 1)) _ ?_ y
    (cover0_9 _ y)
  intro p hp z
  obtain rfl := List.mem_singleton.mp hp
  idx_vars z
  have e0 : r0_4.emb (ix2 z0 z1) 0 = z0 := Fin.ext (by show 0 + 1 * z0.val = _; omega)
  have e1 : r0_4.emb (ix2 z0 z1) 1 = z1 := Fin.ext (by show 0 + 1 * z1.val = _; omega)
  rw [e0, e1]
  apply pay_apply9

/-- The block's selected and window keys and values, as stored. -/
theorem pay_apply10 (R : Fin 1024) (j : Fin 512) :
    k0_pay1 (k0_pay10 x0 x1 x2 x3 x4 x5 x6) (k0_pay9 (View.ld x4 r0_2)) (constant S1024x512 .f32 0x00000000#32) (ix2 R j)
      = mm (hrow x0 x1 R) (fun i n => x4 (ix2 i n)) j := by
  pointwise [k0_pay1, k0_pay2, k0_pay3, k0_pay4, k0_pay5, k0_pay6, k0_pay7, k0_pay8, k0_pay9, k0_pay10]
  rfl

/-- The block's selected and window keys and values. -/
theorem out_apply10 (y : S1024x512.Idx) :
    out0_10 x0 x1 x2 x3 x4 x5 x6 y = (fun (R : Fin 1024) (j : Fin 512) => mm (hrow x0 x1 R) (fun i n => x4 (ix2 i n)) j) (y 0) (y 1) := by
  unfold out0_10
  refine View.canon_apply_of_pieces (Val := Elt Ideal) (e := .bf16) (fun y : S1024x512.Idx => (fun (R : Fin 1024) (j : Fin 512) => mm (hrow x0 x1 R) (fun i n => x4 (ix2 i n)) j) (y 0) (y 1)) _ ?_ y
    (cover0_10 _ y)
  intro p hp z
  obtain rfl := List.mem_singleton.mp hp
  idx_vars z
  have e0 : r0_2.emb (ix2 z0 z1) 0 = z0 := Fin.ext (by show 0 + 1 * z0.val = _; omega)
  have e1 : r0_2.emb (ix2 z0 z1) 1 = z1 := Fin.ext (by show 0 + 1 * z1.val = _; omega)
  rw [e0, e1]
  apply pay_apply10

/-- The block's gates, as stored. -/
theorem pay_apply11 (R : Fin 1024) (j : Fin 128) :
    k0_pay2 (k0_pay10 x0 x1 x2 x3 x4 x5 x6) (View.ld x5 r0_4) (ix2 R j)
      = mm (hrow x0 x1 R) (fun i n => x5 (ix2 i n)) j := by
  pointwise [k0_pay1, k0_pay2, k0_pay3, k0_pay4, k0_pay5, k0_pay6, k0_pay7, k0_pay8, k0_pay9, k0_pay10]
  rfl

/-- The block's gates. -/
theorem out_apply11 (y : S1024x128.Idx) :
    out0_11 x0 x1 x2 x3 x4 x5 x6 y = (fun (R : Fin 1024) (j : Fin 128) => mm (hrow x0 x1 R) (fun i n => x5 (ix2 i n)) j) (y 0) (y 1) := by
  unfold out0_11
  refine View.canon_apply_of_pieces (Val := Elt Ideal) (e := .f32) (fun y : S1024x128.Idx => (fun (R : Fin 1024) (j : Fin 128) => mm (hrow x0 x1 R) (fun i n => x5 (ix2 i n)) j) (y 0) (y 1)) _ ?_ y
    (cover0_11 _ y)
  intro p hp z
  obtain rfl := List.mem_singleton.mp hp
  idx_vars z
  have e0 : r0_4.emb (ix2 z0 z1) 0 = z0 := Fin.ext (by show 0 + 1 * z0.val = _; omega)
  have e1 : r0_4.emb (ix2 z0 z1) 1 = z1 := Fin.ext (by show 0 + 1 * z1.val = _; omega)
  rw [e0, e1]
  apply pay_apply11

/-- The block's recurrence's inputs, as stored. -/
theorem pay_apply12 (R : Fin 1024) (j : Fin 1024) :
    k0_pay3 (k0_pay10 x0 x1 x2 x3 x4 x5 x6) (View.ld x6 r0_0) (ix2 R j)
      = mm (hrow x0 x1 R) (fun i n => x6 (ix2 i n)) j := by
  pointwise [k0_pay1, k0_pay2, k0_pay3, k0_pay4, k0_pay5, k0_pay6, k0_pay7, k0_pay8, k0_pay9, k0_pay10]
  rfl

/-- The block's recurrence's inputs. -/
theorem out_apply12 (y : S1024x1024.Idx) :
    out0_12 x0 x1 x2 x3 x4 x5 x6 y = (fun (R : Fin 1024) (j : Fin 1024) => mm (hrow x0 x1 R) (fun i n => x6 (ix2 i n)) j) (y 0) (y 1) := by
  unfold out0_12
  refine View.canon_apply_of_pieces (Val := Elt Ideal) (e := .f32) (fun y : S1024x1024.Idx => (fun (R : Fin 1024) (j : Fin 1024) => mm (hrow x0 x1 R) (fun i n => x6 (ix2 i n)) j) (y 0) (y 1)) _ ?_ y
    (cover0_12 _ y)
  intro p hp z
  obtain rfl := List.mem_singleton.mp hp
  idx_vars z
  have e0 : r0_0.emb (ix2 z0 z1) 0 = z0 := Fin.ext (by show 0 + 1 * z0.val = _; omega)
  have e1 : r0_0.emb (ix2 z0 z1) 1 = z1 := Fin.ext (by show 0 + 1 * z1.val = _; omega)
  rw [e0, e1]
  apply pay_apply12

end

variable (m : (ℓ : Loc nD τ sig) → Buf (Elt Ideal) ℓ) (ρ : Dev nD → PrngReg) (c : Dev nD)

/-- The arguments as launched. -/
def kargs : Args where
  x := m ((c : Thread nD τ).loc main_arg0)
  g := m ((c : Thread nD τ).loc main_arg1)
  w := m ((c : Thread nD τ).loc main_arg2)

/-! ## The arrays the host prepares -/

/-- The tokens. -/
theorem V_x (r : Fin 32768) (k : Fin 1024) : V m c main_v0 (ix2 r k) = (kargs m c).tok r k := by
  unfold V; after_reads_at; rfl
/-- The gain. -/
theorem V_g (k : Fin 1024) : V m c main_v12 (ix2 0 k) = (kargs m c).g (ix1 k) := by
  unfold V; after_reads_at; rfl
/-- The integer zero is the number zero. -/
theorem ofInt_zero : (FloatOps.sitofp (F := Ideal) .f32 0#32 : EReal) = 0 := by
  show (((0#32).toInt : ℝ) : EReal) = 0
  simp
/-- The gates' columns, then zeros. -/
theorem V_wg (i : Fin 1024) (k : Fin 128) : V m c main_v9 (ix2 i k)
    = if h : k.val < 24 then (kargs m c).w (ix2 i (⟨1280 + k.val, by omega⟩ : Fin 2328)) else 0 := by
  unfold V; after_reads_at
  exact congrArg (fun e : EReal => dite _ _ fun _ => e) ofInt_zero
/-- The queries' columns. -/
theorem V_wq (i : Fin 1024) (k : Fin 512) : V m c main_v2 (ix2 i k) = (kargs m c).w (ix2 i (⟨k.val, by omega⟩ : Fin 2328)) := by
  unfold V; after_reads_at; rfl
/-- The compressed part's columns. -/
theorem V_wc (i : Fin 1024) (k : Fin 256) : V m c main_v4 (ix2 i k) = (kargs m c).w (ix2 i (⟨512 + k.val, by omega⟩ : Fin 2328)) := by
  unfold V; after_reads_at; rfl
/-- The keys' and values' columns. -/
theorem V_wkv (i : Fin 1024) (k : Fin 512) : V m c main_v6 (ix2 i k) = (kargs m c).w (ix2 i (⟨768 + k.val, by omega⟩ : Fin 2328)) := by
  unfold V; after_reads_at; rfl
/-- The recurrence's columns. -/
theorem V_wx (i : Fin 1024) (k : Fin 1024) : V m c main_v11 (ix2 i k) = (kargs m c).w (ix2 i (⟨1304 + k.val, by omega⟩ : Fin 2328)) := by
  unfold V; after_reads_at; rfl

/-! ## The windows' blocks -/

/-- Window 0's block index. -/
theorem e0 : ∀ t : Fin cfg0.N, win0_0.index t = ![(grid0.coords t 0).val, 0] :=
  (by decide +kernel : ∀ t : Fin grid0.N, _)
/-- Window 1's block index. -/
theorem e1 : ∀ t : Fin cfg0.N, win0_1.index t = ![0, 0] :=
  (by decide +kernel : ∀ t : Fin grid0.N, _)
/-- Window 2's block index. -/
theorem e2 : ∀ t : Fin cfg0.N, win0_2.index t = ![0, 0] :=
  (by decide +kernel : ∀ t : Fin grid0.N, _)
/-- Window 3's block index. -/
theorem e3 : ∀ t : Fin cfg0.N, win0_3.index t = ![0, 0] :=
  (by decide +kernel : ∀ t : Fin grid0.N, _)
/-- Window 4's block index. -/
theorem e4 : ∀ t : Fin cfg0.N, win0_4.index t = ![0, 0] :=
  (by decide +kernel : ∀ t : Fin grid0.N, _)
/-- Window 5's block index. -/
theorem e5 : ∀ t : Fin cfg0.N, win0_5.index t = ![0, 0] :=
  (by decide +kernel : ∀ t : Fin grid0.N, _)
/-- Window 6's block index. -/
theorem e6 : ∀ t : Fin cfg0.N, win0_6.index t = ![0, 0] :=
  (by decide +kernel : ∀ t : Fin grid0.N, _)
/-- Window 7's block index. -/
theorem e7 : ∀ t : Fin cfg0.N, win0_7.index t = ![(grid0.coords t 0).val, 0] :=
  (by decide +kernel : ∀ t : Fin grid0.N, _)
/-- Window 8's block index. -/
theorem e8 : ∀ t : Fin cfg0.N, win0_8.index t = ![(grid0.coords t 0).val, 0] :=
  (by decide +kernel : ∀ t : Fin grid0.N, _)
/-- Window 9's block index. -/
theorem e9 : ∀ t : Fin cfg0.N, win0_9.index t = ![(grid0.coords t 0).val, 0] :=
  (by decide +kernel : ∀ t : Fin grid0.N, _)
/-- Window 10's block index. -/
theorem e10 : ∀ t : Fin cfg0.N, win0_10.index t = ![(grid0.coords t 0).val, 0] :=
  (by decide +kernel : ∀ t : Fin grid0.N, _)
/-- Window 11's block index. -/
theorem e11 : ∀ t : Fin cfg0.N, win0_11.index t = ![(grid0.coords t 0).val, 0] :=
  (by decide +kernel : ∀ t : Fin grid0.N, _)
/-- Window 12's block index. -/
theorem e12 : ∀ t : Fin cfg0.N, win0_12.index t = ![(grid0.coords t 0).val, 0] :=
  (by decide +kernel : ∀ t : Fin grid0.N, _)

/-- The token at row `R` of a point's block. -/
def pr (t : Fin cfg0.N) (R : Fin 1024) : Fin 32768 :=
  ⟨(grid0.coords t 0).val * 1024 + R.val, by have := (grid0.coords t 0).isLt; have h : grid0.bound 0 = 32 := rfl; omega⟩

/-- Window 0's block holds the point's tokens. -/
theorem iblk0_apply (t : Fin cfg0.N) (R k : Fin 1024) : iblk m c 0 t (ix2 R k) = (kargs m c).tok (pr t R) k := by
  blk_simp [iblk]
  exact (congrArg _ (by blk_ext [e0, pr])).trans (V_x m c (pr t R) k)

/-- Window 1's block is its whole array. -/
theorem iblk1_apply (t : Fin cfg0.N) (k : Fin 1024) : iblk m c 1 t (ix2 0 k) = (kargs m c).g (ix1 k) := by
  blk_simp [iblk]
  exact (congrArg _ (by blk_ext [e1])).trans (V_g m c k)

/-- Window 2's block is its whole array. -/
theorem iblk2_apply (t : Fin cfg0.N) (i : Fin 1024) (k : Fin 512) :
    iblk m c 2 t (ix2 i k) = (kargs m c).w (ix2 i (⟨k.val, by omega⟩ : Fin 2328)) := by
  blk_simp [iblk]
  exact (congrArg _ (by blk_ext [e2])).trans (V_wq m c i k)

/-- Window 3's block is its whole array. -/
theorem iblk3_apply (t : Fin cfg0.N) (i : Fin 1024) (k : Fin 256) :
    iblk m c 3 t (ix2 i k) = (kargs m c).w (ix2 i (⟨512 + k.val, by omega⟩ : Fin 2328)) := by
  blk_simp [iblk]
  exact (congrArg _ (by blk_ext [e3])).trans (V_wc m c i k)

/-- Window 4's block is its whole array. -/
theorem iblk4_apply (t : Fin cfg0.N) (i : Fin 1024) (k : Fin 512) :
    iblk m c 4 t (ix2 i k) = (kargs m c).w (ix2 i (⟨768 + k.val, by omega⟩ : Fin 2328)) := by
  blk_simp [iblk]
  exact (congrArg _ (by blk_ext [e4])).trans (V_wkv m c i k)

/-- Window 5's block is its whole array. -/
theorem iblk5_apply (t : Fin cfg0.N) (i : Fin 1024) (k : Fin 128) :
    iblk m c 5 t (ix2 i k) = if h : k.val < 24 then (kargs m c).w (ix2 i (⟨1280 + k.val, by omega⟩ : Fin 2328)) else 0 := by
  blk_simp [iblk]
  exact (congrArg _ (by blk_ext [e5])).trans (V_wg m c i k)

/-- Window 6's block is its whole array. -/
theorem iblk6_apply (t : Fin cfg0.N) (i : Fin 1024) (k : Fin 1024) :
    iblk m c 6 t (ix2 i k) = (kargs m c).w (ix2 i (⟨1304 + k.val, by omega⟩ : Fin 2328)) := by
  blk_simp [iblk]
  exact (congrArg _ (by blk_ext [e6])).trans (V_wx m c i k)

/-- A point's normalised row is its token's. -/
theorem hrow_iblk (t : Fin cfg0.N) (R : Fin 1024) :
    hrow (iblk m c 0 t) (iblk m c 1 t) R = rms n1024 ((kargs m c).tok (pr t R)) (fun k => (kargs m c).g (ix1 k)) := by
  unfold hrow
  have a : (fun k => iblk m c 0 t (ix2 R k)) = (kargs m c).tok (pr t R) := funext (iblk0_apply m c t R)
  have b : (fun k => iblk m c 1 t (ix2 0 k)) = fun k => (kargs m c).g (ix1 k) := funext (iblk1_apply m c t)
  exact congrArg₂ (rms n1024) a b

/-! ## The result arrays -/

/-- The scaled queries, everywhere. -/
def kres0 : FVec Ideal S32768x512 .bf16 := fun i => (kargs m c).rq (i 0) (i 1)

/-- A point's scaled queries. -/
theorem blk7 (t : Fin cfg0.N) (R : Fin 1024) (j : Fin 512) :
    mm (hrow (iblk m c 0 t) (iblk m c 1 t) R) (fun i n => iblk m c 2 t (ix2 i n)) j * qscale = (kargs m c).rq (pr t R) j := by
  rw [hrow_iblk]
  unfold mm
  simp only [iblk2_apply]
  rfl

/-- The kernel's result array 0 is the scaled queries. -/
theorem arr_eq0 : (dats m 0 c).arrAt 7 cfg0.N = kres0 m c := by
  refine (dats m 0 c).arrAt_eq_of_covers 7 _ (by decide +kernel) fun t hf y => ?_
  blk_simp
  rw [after0_7]
  idx_vars y
  refine (out_apply7 (iblk m c 0 t) (iblk m c 1 t) (iblk m c 2 t) (iblk m c 3 t) (iblk m c 4 t) (iblk m c 5 t) (iblk m c 6 t) (ix2 y0 y1)).trans ?_
  refine (blk7 m c t y0 y1).trans ?_
  have h : (win0_7.blk t).view.emb (ix2 y0 y1) = ix2 (pr t y0) y1 := by blk_ext [e7, pr]
  rw [h]
  rfl

/-- The keys to compress, everywhere. -/
def kres1 : FVec Ideal S32768x128 .f32 := fun i => (kargs m c).rkc (i 0) (i 1)

/-- A point's keys to compress. -/
theorem blk8 (t : Fin cfg0.N) (R : Fin 1024) (j : Fin 128) :
    mm (hrow (iblk m c 0 t) (iblk m c 1 t) R) (fun i n => iblk m c 3 t (ix2 i n)) (⟨j.val, by omega⟩ : Fin 256) = (kargs m c).rkc (pr t R) j := by
  rw [hrow_iblk]
  unfold mm
  simp only [iblk3_apply]
  rfl

/-- The kernel's result array 1 is the keys to compress. -/
theorem arr_eq1 : (dats m 0 c).arrAt 8 cfg0.N = kres1 m c := by
  refine (dats m 0 c).arrAt_eq_of_covers 8 _ (by decide +kernel) fun t hf y => ?_
  blk_simp
  rw [after0_8]
  idx_vars y
  refine (out_apply8 (iblk m c 0 t) (iblk m c 1 t) (iblk m c 2 t) (iblk m c 3 t) (iblk m c 4 t) (iblk m c 5 t) (iblk m c 6 t) (ix2 y0 y1)).trans ?_
  refine (blk8 m c t y0 y1).trans ?_
  have h : (win0_8.blk t).view.emb (ix2 y0 y1) = ix2 (pr t y0) y1 := by blk_ext [e8, pr]
  rw [h]
  rfl

/-- The values to compress, everywhere. -/
def kres2 : FVec Ideal S32768x128 .f32 := fun i => (kargs m c).rvc (i 0) (i 1)

/-- A point's values to compress. -/
theorem blk9 (t : Fin cfg0.N) (R : Fin 1024) (j : Fin 128) :
    mm (hrow (iblk m c 0 t) (iblk m c 1 t) R) (fun i n => iblk m c 3 t (ix2 i n)) (⟨128 + j.val, by omega⟩ : Fin 256) = (kargs m c).rvc (pr t R) j := by
  rw [hrow_iblk]
  unfold mm
  simp only [iblk3_apply]
  have e : ∀ n (h : n < 2328), n = 640 + j.val →
      (∑ x, rms n1024 ((kargs m c).tok (pr t R)) (fun k => (kargs m c).g (ix1 k)) x * (kargs m c).w (ix2 x ⟨n, h⟩)) = (kargs m c).rvc (pr t R) j :=
    fun n h hn => by subst hn; rfl
  exact e _ _ (by omega)

/-- The kernel's result array 2 is the values to compress. -/
theorem arr_eq2 : (dats m 0 c).arrAt 9 cfg0.N = kres2 m c := by
  refine (dats m 0 c).arrAt_eq_of_covers 9 _ (by decide +kernel) fun t hf y => ?_
  blk_simp
  rw [after0_9]
  idx_vars y
  refine (out_apply9 (iblk m c 0 t) (iblk m c 1 t) (iblk m c 2 t) (iblk m c 3 t) (iblk m c 4 t) (iblk m c 5 t) (iblk m c 6 t) (ix2 y0 y1)).trans ?_
  refine (blk9 m c t y0 y1).trans ?_
  have h : (win0_9.blk t).view.emb (ix2 y0 y1) = ix2 (pr t y0) y1 := by blk_ext [e9, pr]
  rw [h]
  rfl

/-- The selected and window keys and values, everywhere. -/
def kres3 : FVec Ideal S32768x512 .bf16 := fun i => (kargs m c).rkv (i 0) (i 1)

/-- A point's selected and window keys and values. -/
theorem blk10 (t : Fin cfg0.N) (R : Fin 1024) (j : Fin 512) :
    mm (hrow (iblk m c 0 t) (iblk m c 1 t) R) (fun i n => iblk m c 4 t (ix2 i n)) j = (kargs m c).rkv (pr t R) j := by
  rw [hrow_iblk]
  unfold mm
  simp only [iblk4_apply]
  rfl

/-- The kernel's result array 3 is the selected and window keys and values. -/
theorem arr_eq3 : (dats m 0 c).arrAt 10 cfg0.N = kres3 m c := by
  refine (dats m 0 c).arrAt_eq_of_covers 10 _ (by decide +kernel) fun t hf y => ?_
  blk_simp
  rw [after0_10]
  idx_vars y
  refine (out_apply10 (iblk m c 0 t) (iblk m c 1 t) (iblk m c 2 t) (iblk m c 3 t) (iblk m c 4 t) (iblk m c 5 t) (iblk m c 6 t) (ix2 y0 y1)).trans ?_
  refine (blk10 m c t y0 y1).trans ?_
  have h : (win0_10.blk t).view.emb (ix2 y0 y1) = ix2 (pr t y0) y1 := by blk_ext [e10, pr]
  rw [h]
  rfl

/-- The gates, everywhere. -/
def kres4 : FVec Ideal S32768x128 .f32 := fun i => (kargs m c).rgt (i 0) (i 1)

/-- A point's gates. -/
theorem blk11 (t : Fin cfg0.N) (R : Fin 1024) (j : Fin 128) :
    mm (hrow (iblk m c 0 t) (iblk m c 1 t) R) (fun i n => iblk m c 5 t (ix2 i n)) j = (kargs m c).rgt (pr t R) j := by
  rw [hrow_iblk]
  unfold mm
  simp only [iblk5_apply]
  unfold Args.rgt
  by_cases h : j.val < 24
  · simp only [dif_pos h]; rfl
  · simp only [dif_neg h, mul_zero, Finset.sum_const_zero]

/-- The kernel's result array 4 is the gates. -/
theorem arr_eq4 : (dats m 0 c).arrAt 11 cfg0.N = kres4 m c := by
  refine (dats m 0 c).arrAt_eq_of_covers 11 _ (by decide +kernel) fun t hf y => ?_
  blk_simp
  rw [after0_11]
  idx_vars y
  refine (out_apply11 (iblk m c 0 t) (iblk m c 1 t) (iblk m c 2 t) (iblk m c 3 t) (iblk m c 4 t) (iblk m c 5 t) (iblk m c 6 t) (ix2 y0 y1)).trans ?_
  refine (blk11 m c t y0 y1).trans ?_
  have h : (win0_11.blk t).view.emb (ix2 y0 y1) = ix2 (pr t y0) y1 := by blk_ext [e11, pr]
  rw [h]
  rfl

/-- The recurrence's inputs, everywhere. -/
def kres5 : FVec Ideal S32768x1024 .f32 := fun i => (kargs m c).rx (i 0) (i 1)

/-- A point's recurrence's inputs. -/
theorem blk12 (t : Fin cfg0.N) (R : Fin 1024) (j : Fin 1024) :
    mm (hrow (iblk m c 0 t) (iblk m c 1 t) R) (fun i n => iblk m c 6 t (ix2 i n)) j = (kargs m c).rx (pr t R) j := by
  rw [hrow_iblk]
  unfold mm
  simp only [iblk6_apply]
  rfl

/-- The kernel's result array 5 is the recurrence's inputs. -/
theorem arr_eq5 : (dats m 0 c).arrAt 12 cfg0.N = kres5 m c := by
  refine (dats m 0 c).arrAt_eq_of_covers 12 _ (by decide +kernel) fun t hf y => ?_
  blk_simp
  rw [after0_12]
  idx_vars y
  refine (out_apply12 (iblk m c 0 t) (iblk m c 1 t) (iblk m c 2 t) (iblk m c 3 t) (iblk m c 4 t) (iblk m c 5 t) (iblk m c 6 t) (ix2 y0 y1)).trans ?_
  refine (blk12 m c t y0 y1).trans ?_
  have h : (win0_12.blk t).view.emb (ix2 y0 y1) = ix2 (pr t y0) y1 := by blk_ext [e12, pr]
  rw [h]
  rfl

end Cert.Inproj
-- ==== Proof.InRef.lean ====
/-
  The input projections' reference: its six result arrays, token by token.
-/
module

public import proofs.«01_k».proof.Proof.InRows
public import proofs.«01_k».proof.Proof.Gen.Reference3Ideal.Run

@[expose] public section

set_option maxRecDepth 16384

noncomputable section

namespace Cert.Inproj

open Idealize.ShloMosaic Idealize.ShloMosaic.TcCoe Idealize.SL.Sem Cert.Post Cert.Reference3Ideal Cert.Reference3Ideal.Gen Idealize.ShloMosaic.StableHlo

variable (m : (ℓ : Loc nD τ sig) → Buf (Elt Ideal) ℓ) (ρ : Dev nD → PrngReg) (c : Dev nD)

/-- The arguments as launched. -/
def rargs : Args where
  x := m ((c.tc : Thread nD τ).loc main_arg0)
  g := m ((c.tc : Thread nD τ).loc main_arg1)
  w := m ((c.tc : Thread nD τ).loc main_arg2)

/-- The integer zero is the number zero. -/
theorem rofInt_zero : (FloatOps.sitofp (F := Ideal) .f32 0#32 : EReal) = 0 := by
  show (((0#32).toInt : ℝ) : EReal) = 0
  simp

/-- The scaled queries, everywhere. -/
def rres0 : FVec Ideal S32768x512 .bf16 := fun i => (rargs m c).rq (i 0) (i 1)
/-- The keys to compress, everywhere. -/
def rres1 : FVec Ideal S32768x128 .f32 := fun i => (rargs m c).rkc (i 0) (i 1)
/-- The values to compress, everywhere. -/
def rres2 : FVec Ideal S32768x128 .f32 := fun i => (rargs m c).rvc (i 0) (i 1)
/-- The selected and window keys and values, everywhere. -/
def rres3 : FVec Ideal S32768x512 .bf16 := fun i => (rargs m c).rkv (i 0) (i 1)
/-- The gates, everywhere. -/
def rres4 : FVec Ideal S32768x128 .f32 := fun i => (rargs m c).rgt (i 0) (i 1)
/-- The recurrence's inputs, everywhere. -/
def rres5 : FVec Ideal S32768x1024 .f32 := fun i => (rargs m c).rx (i 0) (i 1)

/-- Four runs of 128 columns, one after the other. -/
theorem four (f : ∀ n : ℕ, n < 2328 → EReal) (j : ℕ) (hj : j < 512) :
    (if h : j < 128 then f (768 + j) (by omega) else if h : j - 128 < 128 then f (896 + (j - 128)) (by omega)
      else if h : j - 128 - 128 < 128 then f (1024 + (j - 128 - 128)) (by omega)
      else f (1152 + (j - 128 - 128 - 128)) (by omega)) = f (768 + j) (by omega) := by
  have e : ∀ n n' (h : n < 2328) (h' : n' < 2328), n = n' → f n h = f n' h' := fun n n' h h' e => by subst e; rfl
  by_cases h : j < 128
  · rw [dif_pos h]
  · rw [dif_neg h]
    by_cases h2 : j - 128 < 128
    · rw [dif_pos h2]; exact e _ _ _ _ (by omega)
    · rw [dif_neg h2]
      by_cases h3 : j - 128 - 128 < 128
      · rw [dif_pos h3]; exact e _ _ _ _ (by omega)
      · rw [dif_neg h3]; exact e _ _ _ _ (by omega)

/-- Two runs of 512 columns, one after the other. -/
theorem two (f : ∀ n : ℕ, n < 2328 → EReal) (j : ℕ) (hj : j < 1024) :
    (if h : j < 512 then f (1304 + j) (by omega) else f (1816 + (j - 512)) (by omega)) = f (1304 + j) (by omega) := by
  have e : ∀ n n' (h : n < 2328) (h' : n' < 2328), n = n' → f n h = f n' h' := fun n n' h h' e => by subst e; rfl
  by_cases h : j < 512
  · rw [dif_pos h]
  · rw [dif_neg h]; exact e _ _ _ _ (by omega)

/-- The reference's scaled queries. -/
theorem ref_eq0 : (truncf .bf16 (shapeCast S32768x512 (mulf (extractStridedSlice S4x8192x512 ![0, 0, 0] (Host.dotGeneral (φ₂ := .f32) dot_S4x8192x1024_S1024x2328_S4x8192x2328_2_0_01_1_n_n none (mulf (mulf (m ((c.tc : Thread nD τ).loc main_arg0)) (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf (m ((c.tc : Thread nD τ).loc main_arg0)) (m ((c.tc : Thread nD τ).loc main_arg0))) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (m ((c.tc : Thread nD τ).loc main_arg1))))) (m ((c.tc : Thread nD τ).loc main_arg2))) slices_S4x8192x2328_S4x8192x512_0_0_0) (broadcastInDim S4x8192x512 ![] bcast_S_S4x8192x512 (constant S_ .f32 0x3E38AA3B#32))) shapeCasts_S4x8192x512_S32768x512) bitsLt_bf16_f32 : FVec Ideal S32768x512 .bf16) = rres0 m c := by
  refine @funext (Shape.Idx S32768x512) (fun _ => EReal) _ _ fun y => ?_
  idx_vars y
  pointwise
  rfl

/-- The reference's keys to compress. -/
theorem ref_eq1 : (shapeCast S32768x128 (extractStridedSlice S4x8192x128 ![0, 0, 512] (Host.dotGeneral (φ₂ := .f32) dot_S4x8192x1024_S1024x2328_S4x8192x2328_2_0_01_1_n_n none (mulf (mulf (m ((c.tc : Thread nD τ).loc main_arg0)) (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf (m ((c.tc : Thread nD τ).loc main_arg0)) (m ((c.tc : Thread nD τ).loc main_arg0))) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (m ((c.tc : Thread nD τ).loc main_arg1))))) (m ((c.tc : Thread nD τ).loc main_arg2))) slices_S4x8192x2328_S4x8192x128_0_0_512) shapeCasts_S4x8192x128_S32768x128 : FVec Ideal S32768x128 .f32) = rres1 m c := by
  refine @funext (Shape.Idx S32768x128) (fun _ => EReal) _ _ fun y => ?_
  idx_vars y
  pointwise
  rfl

/-- The reference's values to compress. -/
theorem ref_eq2 : (shapeCast S32768x128 (extractStridedSlice S4x8192x128 ![0, 0, 640] (Host.dotGeneral (φ₂ := .f32) dot_S4x8192x1024_S1024x2328_S4x8192x2328_2_0_01_1_n_n none (mulf (mulf (m ((c.tc : Thread nD τ).loc main_arg0)) (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf (m ((c.tc : Thread nD τ).loc main_arg0)) (m ((c.tc : Thread nD τ).loc main_arg0))) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (m ((c.tc : Thread nD τ).loc main_arg1))))) (m ((c.tc : Thread nD τ).loc main_arg2))) slices_S4x8192x2328_S4x8192x128_0_0_640) shapeCasts_S4x8192x128_S32768x128 : FVec Ideal S32768x128 .f32) = rres2 m c := by
  refine @funext (Shape.Idx S32768x128) (fun _ => EReal) _ _ fun y => ?_
  idx_vars y
  pointwise
  rfl

/-- The reference's selected and window keys and values. -/
theorem ref_eq3 : (Value.res_main_v32 m c : FVec Ideal S32768x512 .bf16) = rres3 m c := by
  unfold Value.res_main_v32
  refine @funext (Shape.Idx S32768x512) (fun _ => EReal) _ _ fun y => ?_
  idx_vars y
  pointwise
  exact four ((rargs m c).z y0) y1.val y1.isLt

/-- The reference's gates. -/
theorem ref_eq4 : (shapeCast S32768x128 (pad S4x8192x128 ![0, 0, 0] ![0, 0, 104] ![0, 0, 0] (extractStridedSlice S4x8192x24 ![0, 0, 1280] (Host.dotGeneral (φ₂ := .f32) dot_S4x8192x1024_S1024x2328_S4x8192x2328_2_0_01_1_n_n none (mulf (mulf (m ((c.tc : Thread nD τ).loc main_arg0)) (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf (m ((c.tc : Thread nD τ).loc main_arg0)) (m ((c.tc : Thread nD τ).loc main_arg0))) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (m ((c.tc : Thread nD τ).loc main_arg1))))) (m ((c.tc : Thread nD τ).loc main_arg2))) slices_S4x8192x2328_S4x8192x24_0_0_1280) (sitofp .f32 (constantI S_ 32 0#32)) pads_S4x8192x24_S4x8192x128_000_000_01040 h_S_) shapeCasts_S4x8192x128_S32768x128 : FVec Ideal S32768x128 .f32) = rres4 m c := by
  refine @funext (Shape.Idx S32768x128) (fun _ => EReal) _ _ fun y => ?_
  idx_vars y
  pointwise
  refine Eq.trans ?_ (show (rargs m c).rgt y0 y1 = rres4 m c (ix2 y0 y1) from rfl)
  unfold Args.rgt
  by_cases h : y1.val < 24
  · have h' : y0.val / 8192 < 4 ∧ y0.val % 8192 < 8192 ∧ y1.val < 24 := ⟨by omega, by omega, h⟩
    simp only [dif_pos h, dif_pos h']
    rfl
  · have h' : ¬ (y0.val / 8192 < 4 ∧ y0.val % 8192 < 8192 ∧ y1.val < 24) := fun h' => h h'.2.2
    simp only [dif_neg h, dif_neg h']
    exact rofInt_zero

/-- The reference's recurrence's inputs. -/
theorem ref_eq5 : (shapeCast S32768x1024 (concatenate S4x8192x1024 2 [⟨S4x8192x512, (extractStridedSlice S4x8192x512 ![0, 0, 1304] (Host.dotGeneral (φ₂ := .f32) dot_S4x8192x1024_S1024x2328_S4x8192x2328_2_0_01_1_n_n none (mulf (mulf (m ((c.tc : Thread nD τ).loc main_arg0)) (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf (m ((c.tc : Thread nD τ).loc main_arg0)) (m ((c.tc : Thread nD τ).loc main_arg0))) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (m ((c.tc : Thread nD τ).loc main_arg1))))) (m ((c.tc : Thread nD τ).loc main_arg2))) slices_S4x8192x2328_S4x8192x512_0_0_1304)⟩, ⟨S4x8192x512, (extractStridedSlice S4x8192x512 ![0, 0, 1816] (Host.dotGeneral (φ₂ := .f32) dot_S4x8192x1024_S1024x2328_S4x8192x2328_2_0_01_1_n_n none (mulf (mulf (m ((c.tc : Thread nD τ).loc main_arg0)) (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf (m ((c.tc : Thread nD τ).loc main_arg0)) (m ((c.tc : Thread nD τ).loc main_arg0))) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (m ((c.tc : Thread nD τ).loc main_arg1))))) (m ((c.tc : Thread nD τ).loc main_arg2))) slices_S4x8192x2328_S4x8192x512_0_0_1816)⟩] concatenates_S4x8192x512_S4x8192x512_S4x8192x1024_d2) shapeCasts_S4x8192x1024_S32768x1024 : FVec Ideal S32768x1024 .f32) = rres5 m c := by
  refine @funext (Shape.Idx S32768x1024) (fun _ => EReal) _ _ fun y => ?_
  idx_vars y
  pointwise
  exact two ((rargs m c).z y0) y1.val y1.isLt

/-- The reference's results are the same functions of its arguments, which it keeps. -/
theorem ref_run : θ_run defs (onTc (τ := τ) (main (F := Ideal))) ⟨m, fun _ => 0, ρ⟩ fun r => ∀ c : Dev nD,
      r.2.mem ((c.tc : Thread nD τ).loc main_v27) = rres0 m c
      ∧ r.2.mem ((c.tc : Thread nD τ).loc main_v28) = rres1 m c
      ∧ r.2.mem ((c.tc : Thread nD τ).loc main_v29) = rres2 m c
      ∧ r.2.mem ((c.tc : Thread nD τ).loc main_v32) = rres3 m c
      ∧ r.2.mem ((c.tc : Thread nD τ).loc main_v34) = rres4 m c
      ∧ r.2.mem ((c.tc : Thread nD τ).loc main_v36) = rres5 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (ref_eq0 m c), (h c).2.1.trans (ref_eq1 m c),
    (h c).2.2.1.trans (ref_eq2 m c), (h c).2.2.2.1.trans (ref_eq3 m c), (h c).2.2.2.2.1.trans (ref_eq4 m c),
    (h c).2.2.2.2.2.1.trans (ref_eq5 m c), (h c).2.2.2.2.2.2⟩) (Value.run m ρ)

end Cert.Inproj
-- ==== Proof.InFinal.lean ====
module

public import proofs.«01_k».proof.Defs
public import proofs.«01_k».proof.Proof.InKernel
public import proofs.«01_k».proof.Proof.InRef
public import proofs.«01_k».proof.Proof.Gen.Kernel3.Frame
public import proofs.«01_k».proof.Proof.Gen.Kernel3Ideal.Frame
public import proofs.«01_k».proof.Proof.Gen.Kernel3Ideal.Value

/-! The claims on the input projections. -/

@[expose] public section

set_option maxRecDepth 16384

noncomputable section

namespace Cert.Inproj

open Idealize.ShloMosaic Idealize.ShloMosaic.TcCoe Idealize.SL.Sem Idealize.ShloMosaic.StableHlo

/-- The kernel as printed terminates, keeps its arguments and leaves every counter at zero. -/
theorem frame_kernel : Cert.quiescent_Kernel3 := fun m ρ _ => Cert.Kernel3.Gen.frame m ρ

/-- The same of the kernel over the extended reals. -/
theorem frame_ideal : Cert.quiescent_Kernel3Ideal := fun m ρ _ => Cert.Kernel3Ideal.Gen.frame m ρ

/-- The same of the reference. -/
theorem frame_reference : Cert.quiescent_Reference3Ideal := fun m ρ _ =>
  (θ_run Cert.Reference3Ideal.defs _ _).mono
    (fun r h => ⟨fun c => (h c).2.2.2.2.2.2, sem_eq_zero_of_no_sems (by decide) r.2⟩) (Cert.Reference3Ideal.Value.run m ρ)

/-- No operation was rewritten. -/
theorem preserves : Cert.preserves_Kernel3_Kernel3Ideal := trivial

/-- The kernel and the reference give the same arrays. -/
theorem algebraic : Cert.algebraic_Kernel3Ideal_Reference3Ideal := fun m ρ m' ρ' _ hag =>
  have hargs : ∀ c, rargs m' c = kargs m c := fun c => by
    show Args.mk _ _ _ = Args.mk _ _ _
    rw [Args.mk.injEq]
    exact hag c
  have h0 : ∀ c, rres0 m' c = kres0 m c := fun c => by
    unfold rres0 kres0; rw [hargs c]
  have h1 : ∀ c, rres1 m' c = kres1 m c := fun c => by
    unfold rres1 kres1; rw [hargs c]
  have h2 : ∀ c, rres2 m' c = kres2 m c := fun c => by
    unfold rres2 kres2; rw [hargs c]
  have h3 : ∀ c, rres3 m' c = kres3 m c := fun c => by
    unfold rres3 kres3; rw [hargs c]
  have h4 : ∀ c, rres4 m' c = kres4 m c := fun c => by
    unfold rres4 kres4; rw [hargs c]
  have h5 : ∀ c, rres5 m' c = kres5 m c := fun c => by
    unfold rres5 kres5; rw [hargs c]
  ⟨fun c => kres0 m c, fun c => kres1 m c, fun c => kres2 m c, fun c => kres3 m c, fun c => kres4 m c, fun c => kres5 m c,
    (θ_run Cert.Kernel3Ideal.defs _ _).mono (fun _ h c => ⟨(h c).1.trans (arr_eq0 m c), (h c).2.1.trans (arr_eq1 m c), (h c).2.2.1.trans (arr_eq2 m c), (h c).2.2.2.1.trans (arr_eq3 m c), (h c).2.2.2.2.1.trans (arr_eq4 m c), (h c).2.2.2.2.2.1.trans (arr_eq5 m c), (h c).2.2.2.2.2.2⟩)
      (Cert.Kernel3Ideal.Value.run_blocks m ρ),
    (θ_run Cert.Reference3Ideal.defs _ _).mono
      (fun _ h c => ⟨(h c).1.trans (h0 c), (h c).2.1.trans (h1 c), (h c).2.2.1.trans (h2 c), (h c).2.2.2.1.trans (h3 c), (h c).2.2.2.2.1.trans (h4 c), (h c).2.2.2.2.2.1.trans (h5 c), (h c).2.2.2.2.2.2⟩)
      (ref_run m' ρ')⟩

end Cert.Inproj
-- ==== Proof.MemRows.lean ====
module

public import proofs.«01_k».proof.Proof.Rows
public import Idealize.ShloMosaic.Lib.Pointwise

/-! The memory's keys and values, row by row. -/

@[expose] public section

set_option maxRecDepth 16384

noncomputable section

namespace Cert.Memkv

open Idealize.ShloMosaic Cert.Post

/-- The three arguments: the memory, the gain and the matrix. -/
structure Args where
  x : FVec Ideal ⟨3, ![4, 256, 1024]⟩ .f32
  g : FVec Ideal ⟨1, ![1024]⟩ .f32
  w : FVec Ideal ⟨2, ![1024, 2048]⟩ .f32

namespace Args
variable (A : Args)

/-- Column `n` of a normalised memory row's projection. -/
def z (b : Fin 4) (r : Fin 256) (n : ℕ) (hn : n < 2048) : EReal :=
  mm (rms n1024 (fun k => A.x (ix3 b r k)) (fun k => A.g (ix1 k))) (fun i n => A.w (ix2 i n)) ⟨n, hn⟩

/-- The keys, transposed. -/
def kt (b : Fin 4) (d : Fin 1024) (r : Fin 256) : EReal := A.z b r d.val (by omega)
/-- The values. -/
def v (b : Fin 4) (r : Fin 256) (d : Fin 1024) : EReal := A.z b r (1024 + d.val) (by omega)

/-- A column by two names. -/
theorem z_congr (b : Fin 4) (r : Fin 256) (n n' : ℕ) (h : n < 2048) (h' : n' < 2048) (e : n = n') : A.z b r n h = A.z b r n' h' := by
  subst e; rfl

end Args

end Cert.Memkv
-- ==== Proof.MemKernel.lean ====
/-
  The memory's kernel: its two result arrays, row by row.
-/
module

public import proofs.«01_k».proof.Proof.MemRows
public import proofs.«01_k».proof.Proof.Gen.Kernel4Ideal.Value
public import Idealize.ShloMosaic.Lib.StableHlo.ReadAt
public import Idealize.ShloMosaic.Lib.Pipeline.ValueKit

@[expose] public section

set_option maxRecDepth 16384

noncomputable section

namespace Cert.Memkv

open Idealize.ShloMosaic Idealize.ShloMosaic.TcCoe Idealize.SL.Sem Cert.Post Cert.Kernel4Ideal Cert.Kernel4Ideal.Gen

/-- A block's row, normalised. -/
def hrow (x0 : Vec Ideal S1x256x1024 .f32) (x1 : Vec Ideal S1x1024 .f32) (R : Fin 256) : Fin 1024 → EReal :=
  rms n1024 (fun k => x0 (ix3 0 R k)) (fun k => x1 (ix2 0 k))

section
variable (x0 : Vec Ideal S1x256x1024 .f32) (x1 : Vec Ideal S1x1024 .f32) (x2 x3 : Vec Ideal S1024x1024 .bf16)

/-- The block's keys, as stored. -/
theorem pay_apply4 (d : Fin 1024) (R : Fin 256) :
    k0_pay2 (View.ld x0 r0_0) (View.ld x1 r0_1) (View.ld x2 r0_2) (ix3 0 d R) = mm (hrow x0 x1 R) (fun i n => x2 (ix2 i n)) d := by
  pointwise [k0_pay1, k0_pay2, k0_pay3]
  rfl

/-- The block's keys. -/
theorem out_apply4 (y : S1x1024x256.Idx) : out0_4 x0 x1 x2 x3 y = (fun (d : Fin 1024) (R : Fin 256) => mm (hrow x0 x1 R) (fun i n => x2 (ix2 i n)) d) (y 1) (y 2) := by
  unfold out0_4
  refine View.canon_apply_of_pieces (Val := Elt Ideal) (e := .bf16) (fun y : S1x1024x256.Idx => (fun (d : Fin 1024) (R : Fin 256) => mm (hrow x0 x1 R) (fun i n => x2 (ix2 i n)) d) (y 1) (y 2)) _ ?_ y (cover0_4 _ y)
  intro p hp z
  obtain rfl := List.mem_singleton.mp hp
  idx_vars z
  obtain rfl : z0 = 0 := Subsingleton.elim _ _
  have e0 : r0_3.emb (ix3 0 z1 z2) 1 = z1 := Fin.ext (by show 0 + 1 * z1.val = _; omega)
  have e1 : r0_3.emb (ix3 0 z1 z2) 2 = z2 := Fin.ext (by show 0 + 1 * z2.val = _; omega)
  rw [e0, e1]
  apply pay_apply4

/-- The block's values, as stored. -/
theorem pay_apply5 (R : Fin 256) (d : Fin 1024) :
    k0_pay3 (View.ld x0 r0_0) (View.ld x1 r0_1) (View.ld x3 r0_2) (ix3 0 R d) = mm (hrow x0 x1 R) (fun i n => x3 (ix2 i n)) d := by
  pointwise [k0_pay1, k0_pay2, k0_pay3]
  rfl

/-- The block's values. -/
theorem out_apply5 (y : S1x256x1024.Idx) : out0_5 x0 x1 x2 x3 y = (fun (R : Fin 256) (d : Fin 1024) => mm (hrow x0 x1 R) (fun i n => x3 (ix2 i n)) d) (y 1) (y 2) := by
  unfold out0_5
  refine View.canon_apply_of_pieces (Val := Elt Ideal) (e := .bf16) (fun y : S1x256x1024.Idx => (fun (R : Fin 256) (d : Fin 1024) => mm (hrow x0 x1 R) (fun i n => x3 (ix2 i n)) d) (y 1) (y 2)) _ ?_ y (cover0_5 _ y)
  intro p hp z
  obtain rfl := List.mem_singleton.mp hp
  idx_vars z
  obtain rfl : z0 = 0 := Subsingleton.elim _ _
  have e0 : r0_0.emb (ix3 0 z1 z2) 1 = z1 := Fin.ext (by show 0 + 1 * z1.val = _; omega)
  have e1 : r0_0.emb (ix3 0 z1 z2) 2 = z2 := Fin.ext (by show 0 + 1 * z2.val = _; omega)
  rw [e0, e1]
  apply pay_apply5

end

variable (m : (ℓ : Loc nD τ sig) → Buf (Elt Ideal) ℓ) (ρ : Dev nD → PrngReg) (c : Dev nD)

/-- The arguments as launched. -/
def kargs : Args where
  x := m ((c : Thread nD τ).loc main_arg0)
  g := m ((c : Thread nD τ).loc main_arg1)
  w := m ((c : Thread nD τ).loc main_arg2)

/-! ## The arrays the host prepares -/

/-- The gain. -/
theorem V_g (k : Fin 1024) : V m c main_v1 (ix2 0 k) = (kargs m c).g (ix1 k) := by
  unfold V; after_reads_at; rfl
/-- The keys' columns. -/
theorem V_wk (i k : Fin 1024) : V m c main_v2 (ix2 i k) = (kargs m c).w (ix2 i (⟨k.val, by omega⟩ : Fin 2048)) := by
  unfold V; after_reads_at; rfl
/-- The values' columns. -/
theorem V_wv (i k : Fin 1024) : V m c main_v3 (ix2 i k) = (kargs m c).w (ix2 i (⟨1024 + k.val, by omega⟩ : Fin 2048)) := by
  unfold V; after_reads_at; rfl

/-! ## The windows' blocks -/

/-- Window 0's block index. -/
theorem e0 : ∀ t : Fin cfg0.N, win0_0.index t = ![(grid0.coords t 0).val, 0, 0] :=
  (by decide +kernel : ∀ t : Fin grid0.N, _)
/-- Window 1's block index. -/
theorem e1 : ∀ t : Fin cfg0.N, win0_1.index t = ![0, 0] :=
  (by decide +kernel : ∀ t : Fin grid0.N, _)
/-- Window 2's block index. -/
theorem e2 : ∀ t : Fin cfg0.N, win0_2.index t = ![0, 0] :=
  (by decide +kernel : ∀ t : Fin grid0.N, _)
/-- Window 3's block index. -/
theorem e3 : ∀ t : Fin cfg0.N, win0_3.index t = ![0, 0] :=
  (by decide +kernel : ∀ t : Fin grid0.N, _)
/-- Window 4's block index. -/
theorem e4 : ∀ t : Fin cfg0.N, win0_4.index t = ![(grid0.coords t 0).val, 0, 0] :=
  (by decide +kernel : ∀ t : Fin grid0.N, _)
/-- Window 5's block index. -/
theorem e5 : ∀ t : Fin cfg0.N, win0_5.index t = ![(grid0.coords t 0).val, 0, 0] :=
  (by decide +kernel : ∀ t : Fin grid0.N, _)

/-- A point's batch element. -/
def pb (t : Fin cfg0.N) : Fin 4 := ⟨(grid0.coords t 0).val, (grid0.coords t 0).isLt⟩

/-- Window 0's block holds the point's memory. -/
theorem iblk0_apply (t : Fin cfg0.N) (R : Fin 256) (k : Fin 1024) : iblk m c 0 t (ix3 0 R k) = (kargs m c).x (ix3 (pb t) R k) := by
  blk_simp [iblk]
  rw [V_main_arg0]
  exact congrArg _ (by blk_ext [e0, pb])

/-- Window 1's block is its whole array. -/
theorem iblk1_apply (t : Fin cfg0.N) (k : Fin 1024) : iblk m c 1 t (ix2 0 k) = (kargs m c).g (ix1 k) := by
  blk_simp [iblk]
  exact (congrArg _ (by blk_ext [e1])).trans (V_g m c k)

/-- Window 2's block is its whole array. -/
theorem iblk2_apply (t : Fin cfg0.N) (i k : Fin 1024) : iblk m c 2 t (ix2 i k) = (kargs m c).w (ix2 i (⟨k.val, by omega⟩ : Fin 2048)) := by
  blk_simp [iblk]
  exact (congrArg _ (by blk_ext [e2])).trans (V_wk m c i k)

/-- Window 3's block is its whole array. -/
theorem iblk3_apply (t : Fin cfg0.N) (i k : Fin 1024) : iblk m c 3 t (ix2 i k) = (kargs m c).w (ix2 i (⟨1024 + k.val, by omega⟩ : Fin 2048)) := by
  blk_simp [iblk]
  exact (congrArg _ (by blk_ext [e3])).trans (V_wv m c i k)

/-- A point's normalised row is its memory's. -/
theorem hrow_iblk (t : Fin cfg0.N) (R : Fin 256) :
    hrow (iblk m c 0 t) (iblk m c 1 t) R = rms n1024 (fun k => (kargs m c).x (ix3 (pb t) R k)) (fun k => (kargs m c).g (ix1 k)) := by
  unfold hrow
  have a : (fun k => iblk m c 0 t (ix3 0 R k)) = fun k => (kargs m c).x (ix3 (pb t) R k) := funext (iblk0_apply m c t R)
  have b : (fun k => iblk m c 1 t (ix2 0 k)) = fun k => (kargs m c).g (ix1 k) := funext (iblk1_apply m c t)
  exact congrArg₂ (rms n1024) a b

/-! ## The result arrays -/

/-- The keys, everywhere. -/
def kres0 : FVec Ideal S4x1024x256 .bf16 := fun i => (kargs m c).kt (i 0) (i 1) (i 2)

/-- A point's keys. -/
theorem blk4 (t : Fin cfg0.N) (d : Fin 1024) (R : Fin 256) :
    mm (hrow (iblk m c 0 t) (iblk m c 1 t) R) (fun i n => iblk m c 2 t (ix2 i n)) d = (kargs m c).kt (pb t) d R := by
  rw [hrow_iblk]
  unfold mm
  simp only [iblk2_apply]
  rfl

/-- The kernel's result array 0 is the keys. -/
theorem arr_eq0 : (dats m 0 c).arrAt 4 cfg0.N = kres0 m c := by
  refine (dats m 0 c).arrAt_eq_of_covers 4 _ (by decide +kernel) fun t hf y => ?_
  blk_simp
  rw [after0_4]
  idx_vars y
  obtain rfl : y0 = 0 := Subsingleton.elim _ _
  refine (out_apply4 (iblk m c 0 t) (iblk m c 1 t) (iblk m c 2 t) (iblk m c 3 t) (ix3 0 y1 y2)).trans ?_
  refine (blk4 m c t y1 y2).trans ?_
  have h : (win0_4.blk t).view.emb (ix3 0 y1 y2) = ix3 (pb t) y1 y2 := by blk_ext [e4, pb]
  rw [h]
  rfl

/-- The values, everywhere. -/
def kres1 : FVec Ideal S4x256x1024 .bf16 := fun i => (kargs m c).v (i 0) (i 1) (i 2)

/-- A point's values. -/
theorem blk5 (t : Fin cfg0.N) (R : Fin 256) (d : Fin 1024) :
    mm (hrow (iblk m c 0 t) (iblk m c 1 t) R) (fun i n => iblk m c 3 t (ix2 i n)) d = (kargs m c).v (pb t) R d := by
  rw [hrow_iblk]
  unfold mm
  simp only [iblk3_apply]
  rfl

/-- The kernel's result array 1 is the values. -/
theorem arr_eq1 : (dats m 0 c).arrAt 5 cfg0.N = kres1 m c := by
  refine (dats m 0 c).arrAt_eq_of_covers 5 _ (by decide +kernel) fun t hf y => ?_
  blk_simp
  rw [after0_5]
  idx_vars y
  obtain rfl : y0 = 0 := Subsingleton.elim _ _
  refine (out_apply5 (iblk m c 0 t) (iblk m c 1 t) (iblk m c 2 t) (iblk m c 3 t) (ix3 0 y1 y2)).trans ?_
  refine (blk5 m c t y1 y2).trans ?_
  have h : (win0_5.blk t).view.emb (ix3 0 y1 y2) = ix3 (pb t) y1 y2 := by blk_ext [e5, pb]
  rw [h]
  rfl

end Cert.Memkv
-- ==== Proof.MemRef.lean ====
/-
  The memory's reference: its two result arrays, row by row.
-/
module

public import proofs.«01_k».proof.Proof.MemRows
public import proofs.«01_k».proof.Proof.Gen.Reference4Ideal.Run

@[expose] public section

set_option maxRecDepth 16384

noncomputable section

namespace Cert.Memkv

open Idealize.ShloMosaic Idealize.ShloMosaic.TcCoe Idealize.SL.Sem Cert.Post Cert.Reference4Ideal Cert.Reference4Ideal.Gen
  Idealize.ShloMosaic.StableHlo

variable (m : (ℓ : Loc nD τ sig) → Buf (Elt Ideal) ℓ) (ρ : Dev nD → PrngReg) (c : Dev nD)

/-- The arguments as launched. -/
def rargs : Args where
  x := m ((c.tc : Thread nD τ).loc main_arg0)
  g := m ((c.tc : Thread nD τ).loc main_arg1)
  w := m ((c.tc : Thread nD τ).loc main_arg2)

/-- The keys, everywhere. -/
def rres0 : FVec Ideal S4x1024x256 .bf16 := fun i => (rargs m c).kt (i 0) (i 1) (i 2)
/-- The values, everywhere. -/
def rres1 : FVec Ideal S4x256x1024 .bf16 := fun i => (rargs m c).v (i 0) (i 1) (i 2)

/-- The reference's keys. -/
theorem ref_eq0 : (truncf .bf16 (transpose S4x1024x256 [0, 2, 1] (shapeCast S4x256x1024 (shapeCast S4x256x4x256 (extractStridedSlice S4x256x1x4x256 ![0, 0, 0, 0, 0] (shapeCast S4x256x2x4x256 (Host.dotGeneral (φ₂ := .f32) dot_S4x256x1024_S1024x2048_S4x256x2048_2_0_01_1_n_n none (mulf (mulf (m ((c.tc : Thread nD τ).loc main_arg0)) (broadcastInDim S4x256x1024 ![0, 1, 2] bcast_S4x256x1_S4x256x1024_0_1_2 (Host.rsqrt (addf (Host.divf (broadcastInDim S4x256x1 ![0, 1] bcast_S4x256_S4x256x1_0_1 (Host.reduceAdd (mulf (m ((c.tc : Thread nD τ).loc main_arg0)) (m ((c.tc : Thread nD τ).loc main_arg0))) (constant S_ .f32 0x00000000#32) reducesTo_S4x256x1024_S4x256_d2 h_S_)) (broadcastInDim S4x256x1 ![] bcast_S_S4x256x1 (constant S_ .f32 0x44800000#32))) (broadcastInDim S4x256x1 ![] bcast_S_S4x256x1 (constant S_ .f32 0x358637BD#32)))))) (broadcastInDim S4x256x1024 ![0, 1, 2] bcast_S1x1x1024_S4x256x1024_0_1_2 (broadcastInDim S1x1x1024 ![2] bcast_S1024_S1x1x1024_2 (m ((c.tc : Thread nD τ).loc main_arg1))))) (m ((c.tc : Thread nD τ).loc main_arg2))) shapeCasts_S4x256x2048_S4x256x2x4x256) slices_S4x256x2x4x256_S4x256x1x4x256_0_0_0_0_0) shapeCasts_S4x256x1x4x256_S4x256x4x256) shapeCasts_S4x256x4x256_S4x256x1024) transposes_S4x256x1024_S4x1024x256_0_2_1) bitsLt_bf16_f32 : FVec Ideal S4x1024x256 .bf16) = rres0 m c := by
  refine @funext (Shape.Idx S4x1024x256) (fun _ => EReal) _ _ fun y => ?_
  idx_vars y
  pointwise
  exact (rargs m c).z_congr y0 y2 _ y1.val _ (by omega) (by omega)

/-- The reference's values. -/
theorem ref_eq1 : (truncf .bf16 (shapeCast S4x256x1024 (shapeCast S4x256x4x256 (extractStridedSlice S4x256x1x4x256 ![0, 0, 1, 0, 0] (shapeCast S4x256x2x4x256 (Host.dotGeneral (φ₂ := .f32) dot_S4x256x1024_S1024x2048_S4x256x2048_2_0_01_1_n_n none (mulf (mulf (m ((c.tc : Thread nD τ).loc main_arg0)) (broadcastInDim S4x256x1024 ![0, 1, 2] bcast_S4x256x1_S4x256x1024_0_1_2 (Host.rsqrt (addf (Host.divf (broadcastInDim S4x256x1 ![0, 1] bcast_S4x256_S4x256x1_0_1 (Host.reduceAdd (mulf (m ((c.tc : Thread nD τ).loc main_arg0)) (m ((c.tc : Thread nD τ).loc main_arg0))) (constant S_ .f32 0x00000000#32) reducesTo_S4x256x1024_S4x256_d2 h_S_)) (broadcastInDim S4x256x1 ![] bcast_S_S4x256x1 (constant S_ .f32 0x44800000#32))) (broadcastInDim S4x256x1 ![] bcast_S_S4x256x1 (constant S_ .f32 0x358637BD#32)))))) (broadcastInDim S4x256x1024 ![0, 1, 2] bcast_S1x1x1024_S4x256x1024_0_1_2 (broadcastInDim S1x1x1024 ![2] bcast_S1024_S1x1x1024_2 (m ((c.tc : Thread nD τ).loc main_arg1))))) (m ((c.tc : Thread nD τ).loc main_arg2))) shapeCasts_S4x256x2048_S4x256x2x4x256) slices_S4x256x2x4x256_S4x256x1x4x256_0_0_1_0_0) shapeCasts_S4x256x1x4x256_S4x256x4x256) shapeCasts_S4x256x4x256_S4x256x1024) bitsLt_bf16_f32 : FVec Ideal S4x256x1024 .bf16) = rres1 m c := by
  refine @funext (Shape.Idx S4x256x1024) (fun _ => EReal) _ _ fun y => ?_
  idx_vars y
  pointwise
  exact (rargs m c).z_congr y0 y1 _ (1024 + y2.val) _ (by omega) (by omega)

/-- The reference's results are the same functions of its arguments, which it keeps. -/
theorem ref_run : θ_run defs (onTc (τ := τ) (main (F := Ideal))) ⟨m, fun _ => 0, ρ⟩ fun r => ∀ c : Dev nD,
      r.2.mem ((c.tc : Thread nD τ).loc main_v21) = rres0 m c
      ∧ r.2.mem ((c.tc : Thread nD τ).loc main_v23) = rres1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (ref_eq0 m c), (h c).2.1.trans (ref_eq1 m c), (h c).2.2⟩) (Value.run m ρ)

end Cert.Memkv
-- ==== Proof.MemFinal.lean ====
module

public import proofs.«01_k».proof.Defs
public import proofs.«01_k».proof.Proof.MemKernel
public import proofs.«01_k».proof.Proof.MemRef
public import proofs.«01_k».proof.Proof.Gen.Kernel4.Frame
public import proofs.«01_k».proof.Proof.Gen.Kernel4Ideal.Frame
public import proofs.«01_k».proof.Proof.Gen.Kernel4Ideal.Value

/-! The claims on the memory's keys and values. -/

@[expose] public section

set_option maxRecDepth 16384

noncomputable section

namespace Cert.Memkv

open Idealize.ShloMosaic Idealize.ShloMosaic.TcCoe Idealize.SL.Sem Idealize.ShloMosaic.StableHlo

/-- The kernel as printed terminates, keeps its arguments and leaves every counter at zero. -/
theorem frame_kernel : Cert.quiescent_Kernel4 := fun m ρ _ => Cert.Kernel4.Gen.frame m ρ

/-- The same of the kernel over the extended reals. -/
theorem frame_ideal : Cert.quiescent_Kernel4Ideal := fun m ρ _ => Cert.Kernel4Ideal.Gen.frame m ρ

/-- The same of the reference. -/
theorem frame_reference : Cert.quiescent_Reference4Ideal := fun m ρ _ =>
  (θ_run Cert.Reference4Ideal.defs _ _).mono
    (fun r h => ⟨fun c => (h c).2.2, sem_eq_zero_of_no_sems (by decide) r.2⟩) (Cert.Reference4Ideal.Value.run m ρ)

/-- No operation was rewritten. -/
theorem preserves : Cert.preserves_Kernel4_Kernel4Ideal := trivial

/-- The kernel and the reference give the same arrays. -/
theorem algebraic : Cert.algebraic_Kernel4Ideal_Reference4Ideal := fun m ρ m' ρ' _ hag =>
  have hargs : ∀ c, rargs m' c = kargs m c := fun c => by
    show Args.mk _ _ _ = Args.mk _ _ _
    rw [Args.mk.injEq]
    exact hag c
  have h0 : ∀ c, rres0 m' c = kres0 m c := fun c => by
    unfold rres0 kres0; rw [hargs c]
  have h1 : ∀ c, rres1 m' c = kres1 m c := fun c => by
    unfold rres1 kres1; rw [hargs c]
  ⟨fun c => kres0 m c, fun c => kres1 m c,
    (θ_run Cert.Kernel4Ideal.defs _ _).mono (fun _ h c => ⟨(h c).1.trans (arr_eq0 m c), (h c).2.1.trans (arr_eq1 m c), (h c).2.2⟩)
      (Cert.Kernel4Ideal.Value.run_blocks m ρ),
    (θ_run Cert.Reference4Ideal.defs _ _).mono
      (fun _ h c => ⟨(h c).1.trans (h0 c), (h c).2.1.trans (h1 c), (h c).2.2⟩)
      (ref_run m' ρ')⟩

end Cert.Memkv
-- ==== Proof.CmpRows.lean ====
/-
  The compressed keys and values: what one entry is, and the sum over a flattened block cut into its rows, groups and entries.
-/
module

public import proofs.«01_k».proof.Proof.Rows

@[expose] public section

set_option maxRecDepth 16384

noncomputable section

namespace Cert.Compr

open Idealize.ShloMosaic

/-- The six arguments: keys, values, their position encodings and their matrices. -/
structure Args where
  k : FVec Ideal ⟨2, ![32768, 128]⟩ .f32
  v : FVec Ideal ⟨2, ![32768, 128]⟩ .f32
  pk : FVec Ideal ⟨2, ![64, 64]⟩ .f32
  pv : FVec Ideal ⟨2, ![64, 64]⟩ .f32
  wk : FVec Ideal ⟨3, ![64, 64, 64]⟩ .f32
  wv : FVec Ideal ⟨3, ![64, 64, 64]⟩ .f32

section
variable (x : FVec Ideal ⟨2, ![32768, 128]⟩ .f32) (p : FVec Ideal ⟨2, ![64, 64]⟩ .f32) (w : FVec Ideal ⟨3, ![64, 64, 64]⟩ .f32)

/-- Column `n` of block `B`, compressed: the rows of the block's head, each with its position's encoding, against their matrices. -/
def cmp (B : Fin 512) (n : Fin 128) : EReal :=
  ∑ d : Fin 64, ∑ r : Fin 64, (x (ix2 (⟨B.val * 64 + r.val, by omega⟩ : Fin 32768) (⟨64 * (n.val / 64) + d.val, by omega⟩ : Fin 128))
    + p (ix2 r d)) * w (ix3 r d (⟨n.val % 64, by omega⟩ : Fin 64))

/-- An entry of the unit matrix, as the host computes it. -/
def eye (a b : ℕ) : EReal :=
  FloatOps.uitofp (F := Ideal) .f32 (IntOp.cmpi CmpIPredicate.eq (IntOp.addi (BitVec.ofNat 32 a) 0#32) (BitVec.ofNat 32 b))

/-- It is one on the diagonal. -/
theorem eye_one (a : ℕ) : eye a a = 1 := by
  have h : IntOp.cmpi CmpIPredicate.eq (IntOp.addi (BitVec.ofNat 32 a) 0#32) (BitVec.ofNat 32 a) = 1#1 := by
    simp [IntOp.cmpi, IntOp.addi]
  unfold eye
  rw [h]
  show (((1#1).toNat : ℝ) : EReal) = 1
  simp

/-- It is zero beside the diagonal: first row. -/
theorem eye_01 : eye 0 1 = 0 := by
  show ((((0#1 : BitVec 1)).toNat : ℝ) : EReal) = 0
  simp

/-- It is zero beside the diagonal: second row. -/
theorem eye_10 : eye 1 0 = 0 := by
  show ((((0#1 : BitVec 1)).toNat : ℝ) : EReal) = 0
  simp

/-- The kernel's product at place `k` of the flattened block: the encoding repeated for each head, the matrix spread over the heads. -/
def term (B : Fin 512) (n : Fin 128) (k : Fin 8192) : EReal :=
  (x (ix2 (⟨B.val * 64 + k.val / 128, by omega⟩ : Fin 32768) (⟨k.val % 128, by omega⟩ : Fin 128))
    + p (ix2 (⟨k.val / 128, by omega⟩ : Fin 64) (⟨k.val % 64, by omega⟩ : Fin 64)))
  * (w (ix3 (⟨k.val / 128, by omega⟩ : Fin 64) (⟨k.val % 64, by omega⟩ : Fin 64) (⟨n.val % 64, by omega⟩ : Fin 64))
    * eye (k.val / 64 % 2) (n.val / 64))

/-- The product at row `r`, head `g`, entry `d`. -/
theorem term_at (B : Fin 512) (n : Fin 128) (d r : Fin 64) (g : Fin 2) :
    term x p w B n ⟨128 * r.val + 64 * g.val + d.val, by omega⟩ =
      (x (ix2 (⟨B.val * 64 + r.val, by omega⟩ : Fin 32768) (⟨64 * g.val + d.val, by omega⟩ : Fin 128)) + p (ix2 r d))
      * (w (ix3 r d (⟨n.val % 64, by omega⟩ : Fin 64)) * eye g.val (n.val / 64)) := by
  have h1 : (128 * r.val + 64 * g.val + d.val) / 128 = r.val := by omega
  have h2 : (128 * r.val + 64 * g.val + d.val) % 128 = 64 * g.val + d.val := by omega
  have h3 : (128 * r.val + 64 * g.val + d.val) % 64 = d.val := by omega
  have h4 : (128 * r.val + 64 * g.val + d.val) / 64 % 2 = g.val := by omega
  simp only [term, h1, h2, h3, h4]

end

/-- A place of the flattened block from its entry, row and head. -/
def place (p : Fin 64 × Fin 64 × Fin 2) : Fin 8192 := ⟨128 * p.2.1.val + 64 * p.2.2.val + p.1.val, by omega⟩

/-- The entry, row and head of a place. -/
def coord (k : Fin 8192) : Fin 64 × Fin 64 × Fin 2 := (⟨k.val % 64, by omega⟩, ⟨k.val / 128, by omega⟩, ⟨k.val / 64 % 2, by omega⟩)

/-- The place of a place's coordinates is itself. -/
theorem place_coord (k : Fin 8192) : place (coord k) = k :=
  Fin.ext (by show 128 * (k.val / 128) + 64 * (k.val / 64 % 2) + k.val % 64 = k.val; omega)

/-- The coordinates of a place made of coordinates are these. -/
theorem coord_place (p : Fin 64 × Fin 64 × Fin 2) : coord (place p) = p := by
  obtain ⟨d, r, g⟩ := p
  refine Prod.ext (Fin.ext ?_) (Prod.ext (Fin.ext ?_) (Fin.ext ?_))
  · show (128 * r.val + 64 * g.val + d.val) % 64 = d.val; omega
  · show (128 * r.val + 64 * g.val + d.val) / 128 = r.val; omega
  · show (128 * r.val + 64 * g.val + d.val) / 64 % 2 = g.val; omega

/-- A sum over a flattened block is one over entries, rows and heads. -/
theorem sum_cut (f : Fin 8192 → EReal) :
    ∑ k, f k = ∑ d : Fin 64, ∑ r : Fin 64, ∑ g : Fin 2, f ⟨128 * r.val + 64 * g.val + d.val, by omega⟩ := by
  have e : ∑ k, f k = ∑ p, f (place p) :=
    Fintype.sum_equiv ⟨coord, place, place_coord, coord_place⟩ f (fun p => f (place p)) fun k => congrArg f (place_coord k).symm
  rw [e, Fintype.sum_prod_type]
  simp only [Fintype.sum_prod_type]
  rfl

section
variable (x : FVec Ideal ⟨2, ![32768, 128]⟩ .f32) (p : FVec Ideal ⟨2, ![64, 64]⟩ .f32) (w : FVec Ideal ⟨3, ![64, 64, 64]⟩ .f32)

/-- The kernel's sum over the flattened block is the compressed entry: the other head's products vanish. -/
theorem sum_term (B : Fin 512) (n : Fin 128) : ∑ k, term x p w B n k = cmp x p w B n := by
  rw [sum_cut]
  unfold cmp
  refine Finset.sum_congr rfl fun d _ => Finset.sum_congr rfl fun r _ => ?_
  rw [Fin.sum_univ_two, term_at, term_at]
  have hn : n.val / 64 = 0 ∨ n.val / 64 = 1 := by omega
  rcases hn with h | h
  · simp only [h, Fin.val_zero, Fin.val_one, eye_one, eye_10, mul_zero, mul_one, add_zero]
  · simp only [h, Fin.val_zero, Fin.val_one, eye_one, eye_01, mul_zero, mul_one, zero_add]

end

end Cert.Compr
-- ==== Proof.CmpKernel.lean ====
/-
  The compression's kernel: its two result arrays, entry by entry.
-/
module

public import proofs.«01_k».proof.Proof.CmpRows
public import proofs.«01_k».proof.Proof.Gen.Kernel5Ideal.Value
public import Idealize.ShloMosaic.Lib.StableHlo.ReadAt
public import Idealize.ShloMosaic.Lib.Pipeline.ValueKit

@[expose] public section

set_option maxRecDepth 16384

noncomputable section

namespace Cert.Compr

open Idealize.ShloMosaic Idealize.ShloMosaic.TcCoe Idealize.SL.Sem Cert.Kernel5Ideal Cert.Kernel5Ideal.Gen

/-- A block's entry: row `R` with the encodings, against column `n`. -/
def ent (x0 : Vec Ideal S128x8192 .f32) (x2 : Vec Ideal S1x8192 .f32) (x4 : Vec Ideal S8192x128 .bf16) (R n : Fin 128) : EReal :=
  ∑ k : Fin 8192, (x0 (ix2 R k) + x2 (ix2 0 k)) * x4 (ix2 k n)

section
variable (x0 x1 : Vec Ideal S128x8192 .f32) (x2 x3 : Vec Ideal S1x8192 .f32) (x4 x5 : Vec Ideal S8192x128 .bf16)

/-- The block's keys, as stored. -/
theorem pay_apply6 (R n : Fin 128) :
    k0_pay1 (View.ld x0 r0_0) (View.ld x2 r0_1) (View.ld x4 r0_2) (ix2 R n) = ent x0 x2 x4 R n := by
  pointwise [k0_pay1]
  rfl

/-- The block's keys. -/
theorem out_apply6 (y : S128x128.Idx) : out0_6 x0 x1 x2 x3 x4 x5 y = ent x0 x2 x4 (y 0) (y 1) := by
  unfold out0_6
  refine View.canon_apply_of_pieces (Val := Elt Ideal) (e := .bf16) (fun y : S128x128.Idx => ent x0 x2 x4 (y 0) (y 1)) _ ?_ y (cover0_6 _ y)
  intro p hp z
  obtain rfl := List.mem_singleton.mp hp
  idx_vars z
  have e0 : r0_3.emb (ix2 z0 z1) 0 = z0 := Fin.ext (by show 0 + 1 * z0.val = _; omega)
  have e1 : r0_3.emb (ix2 z0 z1) 1 = z1 := Fin.ext (by show 0 + 1 * z1.val = _; omega)
  rw [e0, e1]
  apply pay_apply6

/-- The block's values, as stored. -/
theorem pay_apply7 (R n : Fin 128) :
    k0_pay2 (View.ld x1 r0_0) (View.ld x3 r0_1) (View.ld x5 r0_2) (ix2 R n) = ent x1 x3 x5 R n := by
  pointwise [k0_pay2]
  rfl

/-- The block's values. -/
theorem out_apply7 (y : S128x128.Idx) : out0_7 x0 x1 x2 x3 x4 x5 y = ent x1 x3 x5 (y 0) (y 1) := by
  unfold out0_7
  refine View.canon_apply_of_pieces (Val := Elt Ideal) (e := .bf16) (fun y : S128x128.Idx => ent x1 x3 x5 (y 0) (y 1)) _ ?_ y (cover0_7 _ y)
  intro p hp z
  obtain rfl := List.mem_singleton.mp hp
  idx_vars z
  have e0 : r0_3.emb (ix2 z0 z1) 0 = z0 := Fin.ext (by show 0 + 1 * z0.val = _; omega)
  have e1 : r0_3.emb (ix2 z0 z1) 1 = z1 := Fin.ext (by show 0 + 1 * z1.val = _; omega)
  rw [e0, e1]
  apply pay_apply7

end

variable (m : (ℓ : Loc nD τ sig) → Buf (Elt Ideal) ℓ) (ρ : Dev nD → PrngReg) (c : Dev nD)

/-- The arguments as launched. -/
def kargs : Args where
  k := m ((c : Thread nD τ).loc main_arg0)
  v := m ((c : Thread nD τ).loc main_arg1)
  pk := m ((c : Thread nD τ).loc main_arg2)
  pv := m ((c : Thread nD τ).loc main_arg3)
  wk := m ((c : Thread nD τ).loc main_arg4)
  wv := m ((c : Thread nD τ).loc main_arg5)

/-! ## The arrays the host prepares -/

/-- The keys, a block's rows one after the other. -/
theorem V_k (B : Fin 512) (k : Fin 8192) : V m c main_v8 (ix2 B k) =
    (kargs m c).k (ix2 (⟨B.val * 64 + k.val / 128, by omega⟩ : Fin 32768) (⟨k.val % 128, by omega⟩ : Fin 128)) := by
  unfold V; after_reads_at; rfl
/-- The values, a block's rows one after the other. -/
theorem V_v (B : Fin 512) (k : Fin 8192) : V m c main_v9 (ix2 B k) =
    (kargs m c).v (ix2 (⟨B.val * 64 + k.val / 128, by omega⟩ : Fin 32768) (⟨k.val % 128, by omega⟩ : Fin 128)) := by
  unfold V; after_reads_at; rfl
/-- The encodings of the keys, once for each head. -/
theorem V_pk (k : Fin 8192) : V m c main_v3 (ix2 0 k) =
    (kargs m c).pk (ix2 (⟨k.val / 128, by omega⟩ : Fin 64) (⟨k.val % 64, by omega⟩ : Fin 64)) := by
  have h : k.val % 128 % 64 = k.val % 64 := by omega
  unfold V; after_reads_at
  simp only [h]
  rfl
/-- The encodings of the values, once for each head. -/
theorem V_pv (k : Fin 8192) : V m c main_v7 (ix2 0 k) =
    (kargs m c).pv (ix2 (⟨k.val / 128, by omega⟩ : Fin 64) (⟨k.val % 64, by omega⟩ : Fin 64)) := by
  have h : k.val % 128 % 64 = k.val % 64 := by omega
  unfold V; after_reads_at
  simp only [h]
  rfl
/-- The matrices of the keys, spread over the heads. -/
theorem V_wk (k : Fin 8192) (n : Fin 128) : V m c main_v22 (ix2 k n) =
    (kargs m c).wk (ix3 (⟨k.val / 128, by omega⟩ : Fin 64) (⟨k.val % 64, by omega⟩ : Fin 64) (⟨n.val % 64, by omega⟩ : Fin 64))
      * eye (k.val / 64 % 2) (n.val / 64) := by
  unfold V; after_reads_at; rfl
/-- The matrices of the values, spread over the heads. -/
theorem V_wv (k : Fin 8192) (n : Fin 128) : V m c main_v35 (ix2 k n) =
    (kargs m c).wv (ix3 (⟨k.val / 128, by omega⟩ : Fin 64) (⟨k.val % 64, by omega⟩ : Fin 64) (⟨n.val % 64, by omega⟩ : Fin 64))
      * eye (k.val / 64 % 2) (n.val / 64) := by
  unfold V; after_reads_at; rfl

/-! ## The windows' blocks -/

/-- Window 0's block index. -/
theorem e0 : ∀ t : Fin cfg0.N, win0_0.index t = ![(grid0.coords t 0).val, 0] :=
  (by decide +kernel : ∀ t : Fin grid0.N, _)
/-- Window 1's block index. -/
theorem e1 : ∀ t : Fin cfg0.N, win0_1.index t = ![(grid0.coords t 0).val, 0] :=
  (by decide +kernel : ∀ t : Fin grid0.N, _)
/-- Window 2's block index. -/
theorem e2 : ∀ t : Fin cfg0.N, win0_2.index t = ![0, 0] :=
  (by decide +kernel : ∀ t : Fin grid0.N, _)
/-- Window 3's block index. -/
theorem e3 : ∀ t : Fin cfg0.N, win0_3.index t = ![0, 0] :=
  (by decide +kernel : ∀ t : Fin grid0.N, _)
/-- Window 4's block index. -/
theorem e4 : ∀ t : Fin cfg0.N, win0_4.index t = ![0, 0] :=
  (by decide +kernel : ∀ t : Fin grid0.N, _)
/-- Window 5's block index. -/
theorem e5 : ∀ t : Fin cfg0.N, win0_5.index t = ![0, 0] :=
  (by decide +kernel : ∀ t : Fin grid0.N, _)
/-- Window 6's block index. -/
theorem e6 : ∀ t : Fin cfg0.N, win0_6.index t = ![(grid0.coords t 0).val, 0] :=
  (by decide +kernel : ∀ t : Fin grid0.N, _)
/-- Window 7's block index. -/
theorem e7 : ∀ t : Fin cfg0.N, win0_7.index t = ![(grid0.coords t 0).val, 0] :=
  (by decide +kernel : ∀ t : Fin grid0.N, _)

/-- The block that row `R` of a point's tile is. -/
def row (t : Fin cfg0.N) (R : Fin 128) : Fin 512 :=
  ⟨(grid0.coords t 0).val * 128 + R.val, by have h : (grid0.coords t 0).val < 4 := (grid0.coords t 0).isLt; omega⟩

/-- Window 0's block holds the point's rows. -/
theorem iblk0_apply (t : Fin cfg0.N) (R : Fin 128) (k : Fin 8192) : iblk m c 0 t (ix2 R k) =
    (kargs m c).k (ix2 (⟨(row t R).val * 64 + k.val / 128, by omega⟩ : Fin 32768) (⟨k.val % 128, by omega⟩ : Fin 128)) := by
  blk_simp [iblk]
  exact (congrArg _ (by blk_ext [e0, row])).trans (V_k m c (row t R) k)

/-- Window 1's block holds the point's rows. -/
theorem iblk1_apply (t : Fin cfg0.N) (R : Fin 128) (k : Fin 8192) : iblk m c 1 t (ix2 R k) =
    (kargs m c).v (ix2 (⟨(row t R).val * 64 + k.val / 128, by omega⟩ : Fin 32768) (⟨k.val % 128, by omega⟩ : Fin 128)) := by
  blk_simp [iblk]
  exact (congrArg _ (by blk_ext [e1, row])).trans (V_v m c (row t R) k)

/-- Window 2's block is its whole array. -/
theorem iblk2_apply (t : Fin cfg0.N) (k : Fin 8192) : iblk m c 2 t (ix2 0 k) =
    (kargs m c).pk (ix2 (⟨k.val / 128, by omega⟩ : Fin 64) (⟨k.val % 64, by omega⟩ : Fin 64)) := by
  blk_simp [iblk]
  exact (congrArg _ (by blk_ext [e2])).trans (V_pk m c k)

/-- Window 3's block is its whole array. -/
theorem iblk3_apply (t : Fin cfg0.N) (k : Fin 8192) : iblk m c 3 t (ix2 0 k) =
    (kargs m c).pv (ix2 (⟨k.val / 128, by omega⟩ : Fin 64) (⟨k.val % 64, by omega⟩ : Fin 64)) := by
  blk_simp [iblk]
  exact (congrArg _ (by blk_ext [e3])).trans (V_pv m c k)

/-- Window 4's block is its whole array. -/
theorem iblk4_apply (t : Fin cfg0.N) (k : Fin 8192) (n : Fin 128) : iblk m c 4 t (ix2 k n) =
    (kargs m c).wk (ix3 (⟨k.val / 128, by omega⟩ : Fin 64) (⟨k.val % 64, by omega⟩ : Fin 64) (⟨n.val % 64, by omega⟩ : Fin 64))
      * eye (k.val / 64 % 2) (n.val / 64) := by
  blk_simp [iblk]
  exact (congrArg _ (by blk_ext [e4])).trans (V_wk m c k n)

/-- Window 5's block is its whole array. -/
theorem iblk5_apply (t : Fin cfg0.N) (k : Fin 8192) (n : Fin 128) : iblk m c 5 t (ix2 k n) =
    (kargs m c).wv (ix3 (⟨k.val / 128, by omega⟩ : Fin 64) (⟨k.val % 64, by omega⟩ : Fin 64) (⟨n.val % 64, by omega⟩ : Fin 64))
      * eye (k.val / 64 % 2) (n.val / 64) := by
  blk_simp [iblk]
  exact (congrArg _ (by blk_ext [e5])).trans (V_wv m c k n)

/-! ## The result arrays -/

/-- The compressed keys, everywhere. -/
def kres0 : FVec Ideal S512x128 .bf16 := fun i => cmp (kargs m c).k (kargs m c).pk (kargs m c).wk (i 0) (i 1)

/-- A point's keys. -/
theorem blk6 (t : Fin cfg0.N) (R n : Fin 128) :
    ent (iblk m c 0 t) (iblk m c 2 t) (iblk m c 4 t) R n = cmp (kargs m c).k (kargs m c).pk (kargs m c).wk (row t R) n := by
  unfold ent
  rw [← sum_term]
  refine Finset.sum_congr rfl fun k _ => ?_
  rw [iblk0_apply, iblk2_apply, iblk4_apply]
  rfl

/-- The kernel's result array 0 is the compressed keys. -/
theorem arr_eq0 : (dats m 0 c).arrAt 6 cfg0.N = kres0 m c := by
  refine (dats m 0 c).arrAt_eq_of_covers 6 _ (by decide +kernel) fun t hf y => ?_
  blk_simp
  rw [after0_6]
  idx_vars y
  refine (out_apply6 (iblk m c 0 t) (iblk m c 1 t) (iblk m c 2 t) (iblk m c 3 t) (iblk m c 4 t) (iblk m c 5 t) (ix2 y0 y1)).trans ?_
  refine (blk6 m c t y0 y1).trans ?_
  have h : (win0_6.blk t).view.emb (ix2 y0 y1) = ix2 (row t y0) y1 := by blk_ext [e6, row]
  rw [h]
  rfl

/-- The compressed values, everywhere. -/
def kres1 : FVec Ideal S512x128 .bf16 := fun i => cmp (kargs m c).v (kargs m c).pv (kargs m c).wv (i 0) (i 1)

/-- A point's values. -/
theorem blk7 (t : Fin cfg0.N) (R n : Fin 128) :
    ent (iblk m c 1 t) (iblk m c 3 t) (iblk m c 5 t) R n = cmp (kargs m c).v (kargs m c).pv (kargs m c).wv (row t R) n := by
  unfold ent
  rw [← sum_term]
  refine Finset.sum_congr rfl fun k _ => ?_
  rw [iblk1_apply, iblk3_apply, iblk5_apply]
  rfl

/-- The kernel's result array 1 is the compressed values. -/
theorem arr_eq1 : (dats m 0 c).arrAt 7 cfg0.N = kres1 m c := by
  refine (dats m 0 c).arrAt_eq_of_covers 7 _ (by decide +kernel) fun t hf y => ?_
  blk_simp
  rw [after0_7]
  idx_vars y
  refine (out_apply7 (iblk m c 0 t) (iblk m c 1 t) (iblk m c 2 t) (iblk m c 3 t) (iblk m c 4 t) (iblk m c 5 t) (ix2 y0 y1)).trans ?_
  refine (blk7 m c t y0 y1).trans ?_
  have h : (win0_7.blk t).view.emb (ix2 y0 y1) = ix2 (row t y0) y1 := by blk_ext [e7, row]
  rw [h]
  rfl

end Cert.Compr
-- ==== Proof.CmpRef.lean ====
/-
  The compression's reference: its two result arrays, entry by entry.
-/
module

public import proofs.«01_k».proof.Proof.CmpRows
public import proofs.«01_k».proof.Proof.Gen.Reference5Ideal.Run

@[expose] public section

set_option maxRecDepth 16384

noncomputable section

namespace Cert.Compr

open Idealize.ShloMosaic Idealize.ShloMosaic.TcCoe Idealize.SL.Sem Cert.Reference5Ideal Cert.Reference5Ideal.Gen
  Idealize.ShloMosaic.StableHlo

variable (m : (ℓ : Loc nD τ sig) → Buf (Elt Ideal) ℓ) (ρ : Dev nD → PrngReg) (c : Dev nD)

/-- The arguments as launched. -/
def rargs : Args where
  k := m ((c.tc : Thread nD τ).loc main_arg0)
  v := m ((c.tc : Thread nD τ).loc main_arg1)
  pk := m ((c.tc : Thread nD τ).loc main_arg2)
  pv := m ((c.tc : Thread nD τ).loc main_arg3)
  wk := m ((c.tc : Thread nD τ).loc main_arg4)
  wv := m ((c.tc : Thread nD τ).loc main_arg5)

/-- The host's text for one of the two results. -/
def side (x : FVec Ideal S32768x128 .f32) (p : FVec Ideal S64x64 .f32) (w : FVec Ideal S64x64x64 .f32) : FVec Ideal S512x128 .bf16 :=
  truncf .bf16 (shapeCast S512x128 (Host.dotGeneral dot_S4x128x64x2x64_S64x64x64_S4x128x2x64_42_10_013_2_n_n none (addf (shapeCast S4x128x64x2x64 x shapeCasts_S32768x128_S4x128x64x2x64) (broadcastInDim S4x128x64x2x64 ![0, 1, 2, 3, 4] bcast_S1x1x64x1x64_S4x128x64x2x64_0_1_2_3_4 (broadcastInDim S1x1x64x1x64 ![2, 4] bcast_S64x64_S1x1x64x1x64_2_4 p))) w) shapeCasts_S4x128x2x64_S512x128) bitsLt_bf16_f32

/-- Entry by entry it is the compression. -/
theorem side_apply (x : FVec Ideal S32768x128 .f32) (p : FVec Ideal S64x64 .f32) (w : FVec Ideal S64x64x64 .f32) (B : Fin 512) (n : Fin 128) :
    side x p w (ix2 B n) = cmp x p w B n := by
  unfold cmp
  pointwise [side]
  refine Finset.sum_congr rfl fun d _ => Finset.sum_congr rfl fun r _ => ?_
  have h1 : B.val / 128 * 8192 + B.val % 128 * 64 + r.val = B.val * 64 + r.val := by omega
  have h2 : n.val / 64 * 64 + d.val = 64 * (n.val / 64) + d.val := by omega
  simp only [h1, h2]

/-- The compressed keys, everywhere. -/
def rres0 : FVec Ideal S512x128 .bf16 := fun i => cmp (rargs m c).k (rargs m c).pk (rargs m c).wk (i 0) (i 1)
/-- The compressed values, everywhere. -/
def rres1 : FVec Ideal S512x128 .bf16 := fun i => cmp (rargs m c).v (rargs m c).pv (rargs m c).wv (i 0) (i 1)

/-- The reference's keys. -/
theorem ref_eq0 : side (m ((c.tc : Thread nD τ).loc main_arg0)) (m ((c.tc : Thread nD τ).loc main_arg2)) (m ((c.tc : Thread nD τ).loc main_arg4)) = rres0 m c := by
  refine @funext (Shape.Idx S512x128) (fun _ => EReal) _ _ fun y => ?_
  idx_vars y
  exact side_apply _ _ _ y0 y1

/-- The reference's values. -/
theorem ref_eq1 : side (m ((c.tc : Thread nD τ).loc main_arg1)) (m ((c.tc : Thread nD τ).loc main_arg3)) (m ((c.tc : Thread nD τ).loc main_arg5)) = rres1 m c := by
  refine @funext (Shape.Idx S512x128) (fun _ => EReal) _ _ fun y => ?_
  idx_vars y
  exact side_apply _ _ _ y0 y1

/-- The reference's results are the same functions of its arguments, which it keeps. -/
theorem ref_run : θ_run defs (onTc (τ := τ) (main (F := Ideal))) ⟨m, fun _ => 0, ρ⟩ fun r => ∀ c : Dev nD,
      r.2.mem ((c.tc : Thread nD τ).loc main_v11) = rres0 m c
      ∧ r.2.mem ((c.tc : Thread nD τ).loc main_v13) = rres1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans (ref_eq0 m c), (h c).2.1.trans (ref_eq1 m c), (h c).2.2⟩) (Value.run m ρ)

end Cert.Compr
-- ==== Proof.CmpFinal.lean ====
module

public import proofs.«01_k».proof.Defs
public import proofs.«01_k».proof.Proof.CmpKernel
public import proofs.«01_k».proof.Proof.CmpRef
public import proofs.«01_k».proof.Proof.Gen.Kernel5.Frame
public import proofs.«01_k».proof.Proof.Gen.Kernel5Ideal.Frame
public import proofs.«01_k».proof.Proof.Gen.Kernel5Ideal.Value

/-! The claims on the compressed keys and values. -/

@[expose] public section

set_option maxRecDepth 16384

noncomputable section

namespace Cert.Compr

open Idealize.ShloMosaic Idealize.ShloMosaic.TcCoe Idealize.SL.Sem Idealize.ShloMosaic.StableHlo

/-- The kernel as printed terminates, keeps its arguments and leaves every counter at zero. -/
theorem frame_kernel : Cert.quiescent_Kernel5 := fun m ρ _ => Cert.Kernel5.Gen.frame m ρ

/-- The same of the kernel over the extended reals. -/
theorem frame_ideal : Cert.quiescent_Kernel5Ideal := fun m ρ _ => Cert.Kernel5Ideal.Gen.frame m ρ

/-- The same of the reference. -/
theorem frame_reference : Cert.quiescent_Reference5Ideal := fun m ρ _ =>
  (θ_run Cert.Reference5Ideal.defs _ _).mono
    (fun r h => ⟨fun c => (h c).2.2, sem_eq_zero_of_no_sems (by decide) r.2⟩) (Cert.Reference5Ideal.Value.run m ρ)

/-- No operation was rewritten. -/
theorem preserves : Cert.preserves_Kernel5_Kernel5Ideal := trivial

/-- The kernel and the reference give the same arrays. -/
theorem algebraic : Cert.algebraic_Kernel5Ideal_Reference5Ideal := fun m ρ m' ρ' _ hag =>
  have hargs : ∀ c, rargs m' c = kargs m c := fun c => by
    show Args.mk _ _ _ _ _ _ = Args.mk _ _ _ _ _ _
    rw [Args.mk.injEq]
    exact hag c
  have h0 : ∀ c, rres0 m' c = kres0 m c := fun c => by
    unfold rres0 kres0; rw [hargs c]
  have h1 : ∀ c, rres1 m' c = kres1 m c := fun c => by
    unfold rres1 kres1; rw [hargs c]
  ⟨fun c => kres0 m c, fun c => kres1 m c,
    (θ_run Cert.Kernel5Ideal.defs _ _).mono (fun _ h c => ⟨(h c).1.trans (arr_eq0 m c), (h c).2.1.trans (arr_eq1 m c), (h c).2.2⟩)
      (Cert.Kernel5Ideal.Value.run_blocks m ρ),
    (θ_run Cert.Reference5Ideal.defs _ _).mono
      (fun _ h c => ⟨(h c).1.trans (h0 c), (h c).2.1.trans (h1 c), (h c).2.2⟩)
      (ref_run m' ρ')⟩

end Cert.Compr
-- ==== Proof.lean ====
module

public import proofs.«01_k».proof.Defs
public import proofs.«01_k».proof.Proof.PostFinal
public import proofs.«01_k».proof.Proof.Gen.Kernel
public import proofs.«01_k».proof.Proof.Gen.KernelIdeal
public import proofs.«01_k».proof.Proof.Gen.KernelIdeal.Value
public import proofs.«01_k».proof.Proof.Gen.ReferenceIdeal
public import proofs.«01_k».proof.Proof.Gen.ReferenceIdeal.Run
public import proofs.«01_k».proof.Proof.LruFinal
public import proofs.«01_k».proof.Proof.Gen.Kernel2
public import proofs.«01_k».proof.Proof.Gen.Kernel2Ideal
public import proofs.«01_k».proof.Proof.InFinal
public import proofs.«01_k».proof.Proof.Gen.Kernel3
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.MemFinal
public import proofs.«01_k».proof.Proof.Gen.Kernel4
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.CmpFinal
public import proofs.«01_k».proof.Proof.Gen.Kernel5
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import Idealize.ShloMosaic.Adequacy
public import Idealize.ShloMosaic.Init

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts,
    Cert.Kernel2.Gen.facts, Cert.Kernel2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Post.frame_kernel, Cert.Post.frame_ideal, Cert.Post.frame_reference,
    Cert.Lru.frame_kernel, Cert.Lru.frame_ideal,
    Cert.Inproj.frame_kernel, Cert.Inproj.frame_ideal, Cert.Inproj.frame_reference,
    Cert.Memkv.frame_kernel, Cert.Memkv.frame_ideal, Cert.Memkv.frame_reference,
    Cert.Compr.frame_kernel, Cert.Compr.frame_ideal, Cert.Compr.frame_reference,
    Cert.Post.preserves, Cert.Post.algebraic, Cert.Lru.preserves, Cert.Inproj.preserves, Cert.Inproj.algebraic, Cert.Memkv.preserves,
    Cert.Memkv.algebraic, Cert.Compr.preserves, Cert.Compr.algebraic⟩

end Cert.Proof

end
